-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x256 : Shape := ⟨2, ![512, 256]⟩
abbrev S256x16 : Shape := ⟨2, ![256, 16]⟩
abbrev S512x1 : Shape := ⟨2, ![512, 1]⟩
abbrev S2x256x512 : Shape := ⟨3, ![2, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  bcast_S_S256x16 : S_.BroadcastsInDim S256x16 (![] : Fin 0 → Fin S256x16.rank)

variable [Facts]

def fn {F : FTy → Type} [FloatOps F] (main_arg0 : FVec F S512x256 .f32) (main_arg1 : FVec F S256x16 .f32) (main_arg2 : IVec S512x1 32) (main_arg3 : FVec F S2x256x512 .f32) (main_arg4 : FVec F S256x512 .f32) : IVec S512x256 1 × IVec S256x16 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_v3 : FVec F S256x16 .f32 := Host.absf main_arg1
  let main_cst_0 : FVec F S_ .f32 := constant S_ .f32 0x7F800000#32
  let main_v4 : FVec F S256x16 .f32 := broadcastInDim S256x16 ![] bcast_S_S256x16 main_cst_0
  let main_v5 : IVec S256x16 1 := cmpf .olt main_v3 main_v4
  (main_v2, main_v5)
-- ==== Pre_finite_ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  bcast_S_S256x16 : S_.BroadcastsInDim S256x16 (![] : Fin 0 → Fin S256x16.rank)

variable [Facts]

def fn {F : FTy → Type} [FloatOps F] (main_arg0 : FVec F S512x256 .f32) (main_arg1 : FVec F S256x16 .f32) (main_arg2 : IVec S512x1 32) (main_arg3 : FVec F S16x256x512 .f32) (main_arg4 : FVec F S256x512 .f32) : IVec S512x256 1 × IVec S256x16 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_v3 : FVec F S256x16 .f32 := Host.absf main_arg1
  let main_cst_0 : FVec F S_ .f32 := constant S_ .f32 0x7F800000#32
  let main_v4 : FVec F S256x16 .f32 := broadcastInDim S256x16 ![] bcast_S_S256x16 main_cst_0
  let main_v5 : IVec S256x16 1 := cmpf .olt main_v3 main_v4
  (main_v2, main_v5)
-- ==== Kernel.lean ====
abbrev S512x256 : Shape := ⟨2, ![512, 256]⟩
abbrev S256x16 : Shape := ⟨2, ![256, 16]⟩
abbrev S512x1 : Shape := ⟨2, ![512, 1]⟩
abbrev S2x256x512 : Shape := ⟨3, ![2, 256, 512]⟩
abbrev S256x512 : Shape := ⟨2, ![256, 512]⟩
abbrev S512x512 : Shape := ⟨2, ![512, 512]⟩
abbrev S8x64x512 : Shape := ⟨3, ![8, 64, 512]⟩
abbrev S64x512 : Shape := ⟨2, ![64, 512]⟩
abbrev S2x8 : Shape := ⟨2, ![2, 8]⟩
abbrev S_ : Shape := ⟨0, ![]⟩
abbrev S512x16 : Shape := ⟨2, ![512, 16]⟩
abbrev S512 : Shape := ⟨1, ![512]⟩
abbrev S1x1 : Shape := ⟨2, ![1, 1]⟩
abbrev S1x64x256 : Shape := ⟨3, ![1, 64, 256]⟩
abbrev S64x256 : Shape := ⟨2, ![64, 256]⟩

abbrev nBuf : Space → Nat
  | .hbm => 6
  | .vmem => 10
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x1, .i32⟩
  | .hbm, ⟨3, _⟩ => ⟨S2x256x512, .f32⟩
  | .hbm, ⟨4, _⟩ => ⟨S256x512, .f32⟩
  | .hbm, ⟨5, _⟩ => ⟨S512x512, .f32⟩
  | .local _ .vmem, ⟨0, _⟩ => ⟨S512x256, .f32⟩
  | .local _ .vmem, ⟨1, _⟩ => ⟨S256x16, .f32⟩
  | .local _ .vmem, ⟨2, _⟩ => ⟨S512x1, .i32⟩
  | .local _ .vmem, ⟨3, _⟩ => ⟨S2x256x512, .f32⟩
  | .local _ .vmem, ⟨4, _⟩ => ⟨S256x512, .f32⟩
  | .local _ .vmem, ⟨5, _⟩ => ⟨S512x512, .f32⟩
  | .local _ .vmem, ⟨6, _⟩ => ⟨S512x512, .bf16⟩
  | .local _ .vmem, ⟨7, _⟩ => ⟨S8x64x512, .bf16⟩
  | .local _ .vmem, ⟨8, _⟩ => ⟨S64x512, .bf16⟩
  | .local _ .vmem, ⟨9, _⟩ => ⟨S8x64x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_50 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v82 : BitVec 32 := Scalar.addi v2 c1_i32_50
  let c8_i32_51 : BitVec 32 := 8#32
  let v83 : BitVec 32 := Scalar.remsi v82 c8_i32_51
  let c64_i32 : BitVec 32 := 64#32
  let v84 : BitVec 32 := Scalar.muli v83 c64_i32
  let c0_i32_61 : BitVec 32 := 0#32
  ![v84.toNat, 0]
def k0_dev8 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_50 : BitVec 32 := 1#32
  let v82 : BitVec 32 := Scalar.addi v2 c1_i32_50
  let c8_i32_51 : BitVec 32 := 8#32
  let v83 : BitVec 32 := Scalar.remsi v82 c8_i32_51
  let c1_i32_57 : BitVec 32 := 1#32
  let v85 : BitVec 32 := Scalar.muli v83 c1_i32_57
  let v86 : BitVec 32 := Scalar.addi c0_i32_58 v85
  v86.toNat
def k0_dev9 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_62 : BitVec 32 := 2#32
  let v94 : BitVec 32 := Scalar.addi v2 c2_i32_62
  let c8_i32_63 : BitVec 32 := 8#32
  let v95 : BitVec 32 := Scalar.remsi v94 c8_i32_63
  let c1_i32_70 : BitVec 32 := 1#32
  let v97 : BitVec 32 := Scalar.muli v95 c1_i32_70
  let v98 : BitVec 32 := Scalar.addi c0_i32_71 v97
  v98.toNat
def k0_dev10 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_75 : BitVec 32 := 3#32
  let v106 : BitVec 32 := Scalar.addi v2 c3_i32_75
  let c8_i32_76 : BitVec 32 := 8#32
  let v107 : BitVec 32 := Scalar.remsi v106 c8_i32_76
  let c1_i32_83 : BitVec 32 := 1#32
  let v109 : BitVec 32 := Scalar.muli v107 c1_i32_83
  let v110 : BitVec 32 := Scalar.addi c0_i32_84 v109
  v110.toNat
def k0_dev11 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_88 : BitVec 32 := 4#32
  let v118 : BitVec 32 := Scalar.addi v2 c4_i32_88
  let c8_i32_89 : BitVec 32 := 8#32
  let v119 : BitVec 32 := Scalar.remsi v118 c8_i32_89
  let c1_i32_96 : BitVec 32 := 1#32
  let v121 : BitVec 32 := Scalar.muli v119 c1_i32_96
  let v122 : BitVec 32 := Scalar.addi c0_i32_97 v121
  v122.toNat
def k0_dev12 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_101 : BitVec 32 := 5#32
  let v130 : BitVec 32 := Scalar.addi v2 c5_i32_101
  let c8_i32_102 : BitVec 32 := 8#32
  let v131 : BitVec 32 := Scalar.remsi v130 c8_i32_102
  let c1_i32_109 : BitVec 32 := 1#32
  let v133 : BitVec 32 := Scalar.muli v131 c1_i32_109
  let v134 : BitVec 32 := Scalar.addi c0_i32_110 v133
  v134.toNat
def k0_dev13 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_114 : BitVec 32 := 6#32
  let v142 : BitVec 32 := Scalar.addi v2 c6_i32_114
  let c8_i32_115 : BitVec 32 := 8#32
  let v143 : BitVec 32 := Scalar.remsi v142 c8_i32_115
  let c1_i32_122 : BitVec 32 := 1#32
  let v145 : BitVec 32 := Scalar.muli v143 c1_i32_122
  let v146 : BitVec 32 := Scalar.addi c0_i32_123 v145
  v146.toNat
def k0_dev14 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_127 : BitVec 32 := 7#32
  let v154 : BitVec 32 := Scalar.addi v2 c7_i32_127
  let c8_i32_128 : BitVec 32 := 8#32
  let v155 : BitVec 32 := Scalar.remsi v154 c8_i32_128
  let c1_i32_135 : BitVec 32 := 1#32
  let v157 : BitVec 32 := Scalar.muli v155 c1_i32_135
  let v158 : BitVec 32 := Scalar.addi c0_i32_136 v157
  v158.toNat
def k0_off2 (d0 : Dev nD) (c1_i32_140 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v166 : BitVec 32 := Scalar.addi v2 c1_i32_140
  let c8_i32_141 : BitVec 32 := 8#32
  let v167 : BitVec 32 := Scalar.remsi v166 c8_i32_141
  let c64_i32_142 : BitVec 32 := 64#32
  let v168 : BitVec 32 := Scalar.muli v167 c64_i32_142
  let c256_i32_151 : BitVec 32 := 256#32
  ![v168.toNat, 256]
def k0_dev15 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_140 : BitVec 32 := 1#32
  let v166 : BitVec 32 := Scalar.addi v2 c1_i32_140
  let c8_i32_141 : BitVec 32 := 8#32
  let v167 : BitVec 32 := Scalar.remsi v166 c8_i32_141
  let c1_i32_148 : BitVec 32 := 1#32
  let v169 : BitVec 32 := Scalar.muli v167 c1_i32_148
  let v170 : BitVec 32 := Scalar.addi c0_i32_149 v169
  v170.toNat
def k0_dev16 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_152 : BitVec 32 := 2#32
  let v178 : BitVec 32 := Scalar.addi v2 c2_i32_152
  let c8_i32_153 : BitVec 32 := 8#32
  let v179 : BitVec 32 := Scalar.remsi v178 c8_i32_153
  let c1_i32_160 : BitVec 32 := 1#32
  let v181 : BitVec 32 := Scalar.muli v179 c1_i32_160
  let v182 : BitVec 32 := Scalar.addi c0_i32_161 v181
  v182.toNat
def k0_dev17 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_165 : BitVec 32 := 3#32
  let v190 : BitVec 32 := Scalar.addi v2 c3_i32_165
  let c8_i32_166 : BitVec 32 := 8#32
  let v191 : BitVec 32 := Scalar.remsi v190 c8_i32_166
  let c1_i32_173 : BitVec 32 := 1#32
  let v193 : BitVec 32 := Scalar.muli v191 c1_i32_173
  let v194 : BitVec 32 := Scalar.addi c0_i32_174 v193
  v194.toNat
def k0_dev18 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_178 : BitVec 32 := 4#32
  let v202 : BitVec 32 := Scalar.addi v2 c4_i32_178
  let c8_i32_179 : BitVec 32 := 8#32
  let v203 : BitVec 32 := Scalar.remsi v202 c8_i32_179
  let c1_i32_186 : BitVec 32 := 1#32
  let v205 : BitVec 32 := Scalar.muli v203 c1_i32_186
  let v206 : BitVec 32 := Scalar.addi c0_i32_187 v205
  v206.toNat
def k0_dev19 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_191 : BitVec 32 := 5#32
  let v214 : BitVec 32 := Scalar.addi v2 c5_i32_191
  let c8_i32_192 : BitVec 32 := 8#32
  let v215 : BitVec 32 := Scalar.remsi v214 c8_i32_192
  let c1_i32_199 : BitVec 32 := 1#32
  let v217 : BitVec 32 := Scalar.muli v215 c1_i32_199
  let v218 : BitVec 32 := Scalar.addi c0_i32_200 v217
  v218.toNat
def k0_dev20 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_204 : BitVec 32 := 6#32
  let v226 : BitVec 32 := Scalar.addi v2 c6_i32_204
  let c8_i32_205 : BitVec 32 := 8#32
  let v227 : BitVec 32 := Scalar.remsi v226 c8_i32_205
  let c1_i32_212 : BitVec 32 := 1#32
  let v229 : BitVec 32 := Scalar.muli v227 c1_i32_212
  let v230 : BitVec 32 := Scalar.addi c0_i32_213 v229
  v230.toNat
def k0_dev21 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_217 : BitVec 32 := 7#32
  let v238 : BitVec 32 := Scalar.addi v2 c7_i32_217
  let c8_i32_218 : BitVec 32 := 8#32
  let v239 : BitVec 32 := Scalar.remsi v238 c8_i32_218
  let c1_i32_225 : BitVec 32 := 1#32
  let v241 : BitVec 32 := Scalar.muli v239 c1_i32_225
  let v242 : BitVec 32 := Scalar.addi c0_i32_226 v241
  v242.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_230 : BitVec 32 := 64#32
  let v250 : BitVec 32 := Scalar.muli v2 c64_i32_230
  let v251 : Index := Scalar.indexCast v250
  let c0_231 : Index := 0#32
  ![v251.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_235 : BitVec 32 := 64#32
  let v259 : BitVec 32 := Scalar.muli v2 c64_i32_235
  let v260 : Index := Scalar.indexCast v259
  let c0_236 : Index := 0#32
  ![v260.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_323 : BitVec 32 := 64#32
  let v346 : BitVec 32 := Scalar.muli v2 c64_i32_323
  let v347 : Index := Scalar.indexCast v346
  let c0_324 : Index := 0#32
  ![v347.toNat, 0]
def k0_dev22 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_325 : BitVec 32 := 1#32
  let v349 : BitVec 32 := Scalar.addi v2 c1_i32_325
  let c8_i32_326 : BitVec 32 := 8#32
  let v350 : BitVec 32 := Scalar.remsi v349 c8_i32_326
  let c1_i32_332 : BitVec 32 := 1#32
  let v351 : BitVec 32 := Scalar.muli v350 c1_i32_332
  let v352 : BitVec 32 := Scalar.addi c0_i32_333 v351
  v352.toNat
def k0_dev23 (d0 : Dev nD) : Nat :=
  let c0_i32_346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_338 : BitVec 32 := 2#32
  let v360 : BitVec 32 := Scalar.addi v2 c2_i32_338
  let c8_i32_339 : BitVec 32 := 8#32
  let v361 : BitVec 32 := Scalar.remsi v360 c8_i32_339
  let c1_i32_345 : BitVec 32 := 1#32
  let v362 : BitVec 32 := Scalar.muli v361 c1_i32_345
  let v363 : BitVec 32 := Scalar.addi c0_i32_346 v362
  v363.toNat
def k0_dev24 (d0 : Dev nD) : Nat :=
  let c0_i32_359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_351 : BitVec 32 := 3#32
  let v371 : BitVec 32 := Scalar.addi v2 c3_i32_351
  let c8_i32_352 : BitVec 32 := 8#32
  let v372 : BitVec 32 := Scalar.remsi v371 c8_i32_352
  let c1_i32_358 : BitVec 32 := 1#32
  let v373 : BitVec 32 := Scalar.muli v372 c1_i32_358
  let v374 : BitVec 32 := Scalar.addi c0_i32_359 v373
  v374.toNat
def k0_dev25 (d0 : Dev nD) : Nat :=
  let c0_i32_372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_364 : BitVec 32 := 4#32
  let v382 : BitVec 32 := Scalar.addi v2 c4_i32_364
  let c8_i32_365 : BitVec 32 := 8#32
  let v383 : BitVec 32 := Scalar.remsi v382 c8_i32_365
  let c1_i32_371 : BitVec 32 := 1#32
  let v384 : BitVec 32 := Scalar.muli v383 c1_i32_371
  let v385 : BitVec 32 := Scalar.addi c0_i32_372 v384
  v385.toNat
def k0_dev26 (d0 : Dev nD) : Nat :=
  let c0_i32_385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_377 : BitVec 32 := 5#32
  let v393 : BitVec 32 := Scalar.addi v2 c5_i32_377
  let c8_i32_378 : BitVec 32 := 8#32
  let v394 : BitVec 32 := Scalar.remsi v393 c8_i32_378
  let c1_i32_384 : BitVec 32 := 1#32
  let v395 : BitVec 32 := Scalar.muli v394 c1_i32_384
  let v396 : BitVec 32 := Scalar.addi c0_i32_385 v395
  v396.toNat
def k0_dev27 (d0 : Dev nD) : Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_390 : BitVec 32 := 6#32
  let v404 : BitVec 32 := Scalar.addi v2 c6_i32_390
  let c8_i32_391 : BitVec 32 := 8#32
  let v405 : BitVec 32 := Scalar.remsi v404 c8_i32_391
  let c1_i32_397 : BitVec 32 := 1#32
  let v406 : BitVec 32 := Scalar.muli v405 c1_i32_397
  let v407 : BitVec 32 := Scalar.addi c0_i32_398 v406
  v407.toNat
def k0_dev28 (d0 : Dev nD) : Nat :=
  let c0_i32_411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_403 : BitVec 32 := 7#32
  let v415 : BitVec 32 := Scalar.addi v2 c7_i32_403
  let c8_i32_404 : BitVec 32 := 8#32
  let v416 : BitVec 32 := Scalar.remsi v415 c8_i32_404
  let c1_i32_410 : BitVec 32 := 1#32
  let v417 : BitVec 32 := Scalar.muli v416 c1_i32_410
  let v418 : BitVec 32 := Scalar.addi c0_i32_411 v417
  v418.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_508 : BitVec 32 := 64#32
  let v508 : BitVec 32 := Scalar.muli v2 c64_i32_508
  let v509 : Index := Scalar.indexCast v508
  let c256_509 : Index := 256#32
  ![v509.toNat, 256]
def k0_dev29 (d0 : Dev nD) : Nat :=
  let c0_i32_518 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_510 : BitVec 32 := 1#32
  let v511 : BitVec 32 := Scalar.addi v2 c1_i32_510
  let c8_i32_511 : BitVec 32 := 8#32
  let v512 : BitVec 32 := Scalar.remsi v511 c8_i32_511
  let c1_i32_517 : BitVec 32 := 1#32
  let v513 : BitVec 32 := Scalar.muli v512 c1_i32_517
  let v514 : BitVec 32 := Scalar.addi c0_i32_518 v513
  v514.toNat
def k0_dev30 (d0 : Dev nD) : Nat :=
  let c0_i32_531 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_523 : BitVec 32 := 2#32
  let v522 : BitVec 32 := Scalar.addi v2 c2_i32_523
  let c8_i32_524 : BitVec 32 := 8#32
  let v523 : BitVec 32 := Scalar.remsi v522 c8_i32_524
  let c1_i32_530 : BitVec 32 := 1#32
  let v524 : BitVec 32 := Scalar.muli v523 c1_i32_530
  let v525 : BitVec 32 := Scalar.addi c0_i32_531 v524
  v525.toNat
def k0_dev31 (d0 : Dev nD) : Nat :=
  let c0_i32_544 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_536 : BitVec 32 := 3#32
  let v533 : BitVec 32 := Scalar.addi v2 c3_i32_536
  let c8_i32_537 : BitVec 32 := 8#32
  let v534 : BitVec 32 := Scalar.remsi v533 c8_i32_537
  let c1_i32_543 : BitVec 32 := 1#32
  let v535 : BitVec 32 := Scalar.muli v534 c1_i32_543
  let v536 : BitVec 32 := Scalar.addi c0_i32_544 v535
  v536.toNat
def k0_dev32 (d0 : Dev nD) : Nat :=
  let c0_i32_557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_549 : BitVec 32 := 4#32
  let v544 : BitVec 32 := Scalar.addi v2 c4_i32_549
  let c8_i32_550 : BitVec 32 := 8#32
  let v545 : BitVec 32 := Scalar.remsi v544 c8_i32_550
  let c1_i32_556 : BitVec 32 := 1#32
  let v546 : BitVec 32 := Scalar.muli v545 c1_i32_556
  let v547 : BitVec 32 := Scalar.addi c0_i32_557 v546
  v547.toNat
def k0_dev33 (d0 : Dev nD) : Nat :=
  let c0_i32_570 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_562 : BitVec 32 := 5#32
  let v555 : BitVec 32 := Scalar.addi v2 c5_i32_562
  let c8_i32_563 : BitVec 32 := 8#32
  let v556 : BitVec 32 := Scalar.remsi v555 c8_i32_563
  let c1_i32_569 : BitVec 32 := 1#32
  let v557 : BitVec 32 := Scalar.muli v556 c1_i32_569
  let v558 : BitVec 32 := Scalar.addi c0_i32_570 v557
  v558.toNat
def k0_dev34 (d0 : Dev nD) : Nat :=
  let c0_i32_583 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_575 : BitVec 32 := 6#32
  let v566 : BitVec 32 := Scalar.addi v2 c6_i32_575
  let c8_i32_576 : BitVec 32 := 8#32
  let v567 : BitVec 32 := Scalar.remsi v566 c8_i32_576
  let c1_i32_582 : BitVec 32 := 1#32
  let v568 : BitVec 32 := Scalar.muli v567 c1_i32_582
  let v569 : BitVec 32 := Scalar.addi c0_i32_583 v568
  v569.toNat
def k0_dev35 (d0 : Dev nD) : Nat :=
  let c0_i32_596 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_588 : BitVec 32 := 7#32
  let v577 : BitVec 32 := Scalar.addi v2 c7_i32_588
  let c8_i32_589 : BitVec 32 := 8#32
  let v578 : BitVec 32 := Scalar.remsi v577 c8_i32_589
  let c1_i32_595 : BitVec 32 := 1#32
  let v579 : BitVec 32 := Scalar.muli v578 c1_i32_595
  let v580 : BitVec 32 := Scalar.addi c0_i32_596 v579
  v580.toNat
def k0_off7 (d0 : Dev nD) (c1_i32_613 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_612 : BitVec 32 := 8#32
  let v595 : BitVec 32 := Scalar.addi v2 c8_i32_612
  let v596 : BitVec 32 := Scalar.subi v595 c1_i32_613
  let c8_i32_614 : BitVec 32 := 8#32
  let v597 : BitVec 32 := Scalar.remsi v596 c8_i32_614
  let c64_i32_618 : BitVec 32 := 64#32
  let v601 : BitVec 32 := Scalar.muli v597 c64_i32_618
  let v602 : Index := Scalar.indexCast v601
  let c0_619 : Index := 0#32
  ![v602.toNat, 0]
def k0_off8 (d0 : Dev nD) (c1_i32_746 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_745 : BitVec 32 := 8#32
  let v707 : BitVec 32 := Scalar.addi v2 c8_i32_745
  let v708 : BitVec 32 := Scalar.subi v707 c1_i32_746
  let c8_i32_747 : BitVec 32 := 8#32
  let v709 : BitVec 32 := Scalar.remsi v708 c8_i32_747
  let c64_i32_751 : BitVec 32 := 64#32
  let v713 : BitVec 32 := Scalar.muli v709 c64_i32_751
  let v714 : Index := Scalar.indexCast v713
  let c256_752 : Index := 256#32
  ![v714.toNat, 256]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S256x512 : Shape := ⟨2, ![256, 512]⟩
abbrev S512x16 : Shape := ⟨2, ![512, 16]⟩
abbrev S_ : Shape := ⟨0, ![]⟩
abbrev S512 : Shape := ⟨1, ![512]⟩
abbrev S512x512 : Shape := ⟨2, ![512, 512]⟩
abbrev S512x1x1 : Shape := ⟨3, ![512, 1, 1]⟩
abbrev S1 : Shape := ⟨1, ![1]⟩
abbrev S1x1x1 : Shape := ⟨3, ![1, 1, 1]⟩
abbrev S512x256x512 : Shape := ⟨3, ![512, 256, 512]⟩

abbrev nBuf : Space → Nat
  | .hbm => 66
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x1, .i32⟩
  | .hbm, ⟨3, _⟩ => ⟨S16x256x512, .f32⟩
  | .hbm, ⟨4, _⟩ => ⟨S256x512, .f32⟩
  | .hbm, ⟨5, _⟩ => ⟨S512x16, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S512x16, .f32⟩
  | .hbm, ⟨10, _⟩ => ⟨S512x16, .f32⟩
  | .hbm, ⟨11, _⟩ => ⟨S512x16, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S512x16, .f32⟩
  | .hbm, ⟨16, _⟩ => ⟨S512x16, .f32⟩
  | .hbm, ⟨17, _⟩ => ⟨S512x512, .f32⟩
  | .hbm, ⟨18, _⟩ => ⟨S512, .i32⟩
  | .hbm, ⟨19, _⟩ => ⟨S_, .i32⟩
  | .hbm, ⟨20, _⟩ => ⟨S512x1, .i32⟩
  | .hbm, ⟨21, _⟩ => ⟨S512x1, .i1⟩
  | .hbm, ⟨22, _⟩ => ⟨S_, .i32⟩
  | .hbm, ⟨23, _⟩ => ⟨S512x1, .i32⟩
  | .hbm, ⟨24, _⟩ => ⟨S512x1, .i32⟩
  | .hbm, ⟨25, _⟩ => ⟨S512x1, .i32⟩
  | .hbm, ⟨26, _⟩ => ⟨S512x1x1, .i32⟩
  | .hbm, ⟨27, _⟩ => ⟨S1, .i32⟩
  | .hbm, ⟨28, _⟩ => ⟨S_, .i32⟩
  | .hbm, ⟨29, _⟩ => ⟨S512x1x1, .i32⟩
  | .hbm, ⟨30, _⟩ => ⟨S512x1x1, .i1⟩
  | .hbm, ⟨31, _⟩ => ⟨S1x1x1, .i32⟩
  | .hbm, ⟨32, _⟩ => ⟨S512x1x1, .i32⟩
  | .hbm, ⟨33, _⟩ => ⟨S512x1x1, .i1⟩
  | .hbm, ⟨34, _⟩ => ⟨S512x1x1, .i1⟩
  | .hbm, ⟨35, _⟩ => ⟨S_, .i1⟩
  | .hbm, ⟨36, _⟩ => ⟨S512x1, .i1⟩
  | .hbm, ⟨37, _⟩ => ⟨S512x1, .f32⟩
  | .hbm, ⟨38, _⟩ => ⟨S_, .f32⟩
  | .hbm, ⟨39, _⟩ => ⟨S512x1, .f32⟩
  | .hbm, ⟨40, _⟩ => ⟨S512x1, .f32⟩
  | .hbm, ⟨41, _⟩ => ⟨S_, .i32⟩
  | .hbm, ⟨42, _⟩ => ⟨S512, .i32⟩
  | .hbm, ⟨43, _⟩ => ⟨S512, .i1⟩
  | .hbm, ⟨44, _⟩ => ⟨S_, .i32⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S512x1, .i32⟩
  | .hbm, ⟨49, _⟩ => ⟨S512x256x512, .f32⟩
  | .hbm, ⟨50, _⟩ => ⟨S512x512, .f32⟩
  | .hbm, ⟨51, _⟩ => ⟨S_, .i32⟩
  | .hbm, ⟨52, _⟩ => ⟨S512x1, .i32⟩
  | .hbm, ⟨53, _⟩ => ⟨S512x1, .i1⟩
  | .hbm, ⟨54, _⟩ => ⟨S_, .i32⟩
  | .hbm, ⟨55, _⟩ => ⟨S512x1, .i32⟩
  | .hbm, ⟨56, _⟩ => ⟨S512x1, .i1⟩
  | .hbm, ⟨57, _⟩ => ⟨S512x1, .i1⟩
  | .hbm, ⟨58, _⟩ => ⟨S512x512, .f32⟩
  | .hbm, ⟨59, _⟩ => ⟨S512x512, .f32⟩
  | .hbm, ⟨60, _⟩ => ⟨S_, .f32⟩
  | .hbm, ⟨61, _⟩ => ⟨S_, .f32⟩
  | .hbm, ⟨62, _⟩ => ⟨S512x512, .i1⟩
  | .hbm, ⟨63, _⟩ => ⟨S512x512, .f32⟩
  | .hbm, ⟨64, _⟩ => ⟨S512x512, .f32⟩
  | .hbm, ⟨65, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v12 : Ref sig .tc := ⟨.hbm, 40, rfl⟩
abbrev main_c : Ref sig .tc := ⟨.hbm, 41, rfl⟩
abbrev main_v13 : Ref sig .tc := ⟨.hbm, 42, rfl⟩
abbrev main_v14 : Ref sig .tc := ⟨.hbm, 43, rfl⟩
abbrev main_c_1 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_2 : Ref sig .tc := ⟨.hbm, 51, rfl⟩
abbrev main_v21 : Ref sig .tc := ⟨.hbm, 52, rfl⟩
abbrev main_v22 : Ref sig .tc := ⟨.hbm, 53, rfl⟩
abbrev main_c_3 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_4 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v28 : Ref sig .tc := ⟨.hbm, 64, rfl⟩
abbrev main_v29 : Ref sig .tc := ⟨.hbm, 65, rfl⟩

abbrev nD : Nat := 1
abbrev τ : Topo := Topo.v7x

variable {F : FTy → Type} [FloatOps F]
-- ==== Proof.Proto.lean ====
/-
The exchange of the kernel, as a protocol between the eight devices.

Every device holds a 512 by 512 block of partial sums. In a first exchange device `c` sends rows
`64 t .. 64 t + 63` of its block to device `t`, for every other `t`, half the columns at a time; the receiver adds the
seven pieces it gets to its own rows and rounds the sum. In a second exchange it sends the rounded rows to every other
device. Before either, all devices meet at one barrier semaphore.

This file names the semaphores, the pieces of each buffer and what they hold, and gives the schedule: which device
raises which semaphore once, and what it hands over with it.
-/
module

public import proofs.«01_k».proof.Proof.Gen.KernelIdeal.Frame
public import proofs.«01_k».proof.Proof.Gen.KernelIdeal.Skeleton
public import Idealize.ShloMosaic.Lib.Pipeline.Launch
public import Idealize.ShloMosaic.Lib.Pipeline.Kit
public import Idealize.ShloMosaic.Lib.PointwiseCore
public import Idealize.ShloMosaic.Lib.Tactic

@[expose] public section

set_option maxRecDepth 16384

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareDrop shareTokN)

variable {F : FTy → Type} [FloatOps F]

/-! ## The ghost state: the pipeline's copy beside the exchange's own, whose duties are named by numbers -/

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- What memory holds at launch: any contents, every semaphore at zero, any generator registers. -/
def s₀ : MemSt nD τ sig (Elt F) := ⟨m, fun _ => 0, ρ⟩

/-! ## Devices around the ring -/

/-- The device `k` places after `c`. -/
def nbr (c : Dev nD) (k : ℕ) : Dev nD := ⟨(c.val + k) % 8, Nat.mod_lt _ (by decide)⟩

theorem nbr_val (c : Dev nD) (k : ℕ) : (nbr c k).val = (c.val + k) % 8 := rfl
theorem nbr_nbr (c : Dev nD) (j k : ℕ) : nbr (nbr c j) k = nbr c (j + k) :=
  Fin.ext (by rw [nbr_val, nbr_val, nbr_val]; omega)
theorem dev_lt (c : Dev nD) : c.val < 8 := c.isLt
theorem nbr_eight (c : Dev nD) : nbr c 8 = c := Fin.ext (by have := dev_lt c; rw [nbr_val]; omega)
theorem nbr_back (c : Dev nD) (k : ℕ) (h : k ≤ 8) : nbr (nbr c k) (8 - k) = c := by
  rw [nbr_nbr, Nat.add_sub_cancel' h, nbr_eight]
theorem nbr_forth (c : Dev nD) (k : ℕ) (h : k ≤ 8) : nbr (nbr c (8 - k)) k = c := by
  rw [nbr_nbr, Nat.sub_add_cancel h, nbr_eight]

/-- Going `k` places on, as a permutation of the devices. -/
def turn (k : ℕ) (h : k ≤ 8) : Dev nD ≃ Dev nD :=
  ⟨fun c => nbr c k, fun c => nbr c (8 - k), fun c => nbr_back c k h, fun c => nbr_forth c k h⟩

/-! ## Semaphores -/

/-- The barrier semaphore. -/
abbrev barS : Sem sig := (SemArray.scalar (sig.barrier 0 rfl) : Sems sig S_).sem

/-- The transfer semaphores, by kind (0: first exchange sent, 1: first exchange received, 2: second exchange sent,
    3: second exchange received), column half and distance. -/
def dq (k h d : ℕ) : DmaSem sig := Fin.ofNat 70 (6 + 16 * k + 8 * h + d)

theorem dq_val (k h d : ℕ) (hk : k < 4) (hh : h < 2) (hd : d < 8) : (dq k h d).val = 6 + 16 * k + 8 * h + d := by
  show (6 + 16 * k + 8 * h + d) % 70 = _
  omega

abbrev barCell (c : Dev nD) : GSem nD τ sig := ((c : Thread nD τ), .reg barS)
abbrev xCell (c : Dev nD) (k h d : ℕ) : GSem nD τ sig := ((c : Thread nD τ), .dma (dq k h d))

/-- The kernel's own semaphores in order. -/
abbrev osem : Fin 64 → SemLoc sig := fun i => .dma (Fin.ofNat 70 (6 + i.val))

/-- What one transfer of 64 rows by half the columns counts on its semaphores. -/
abbrev NN : ℕ := (cc0_scratch0 : Ref sig .tc).dmaCredit S64x256 .bf16
theorem NN_pos : 0 < NN := sig.dmaCredit_pos _ _ _ _ _ (by decide)

/-! ## Pieces of the buffers -/

abbrev pbuf : Ref sig .tc := cc0_scratch0
abbrev stgB : Ref sig .tc := cc0_scratch1
abbrev rbuf : Ref sig .tc := cc0_scratch2
abbrev st2B : Ref sig .tc := cc0_scratch3
abbrev outB : Ref sig .tc := cc0_stg5_0

/-- Rows `64 t .. 64 t + 63`, column half `h`, of a 512 by 512 buffer. -/
def chunk (t h : ℕ) : Finset S512x512.Idx :=
  Finset.univ.filter fun i => (i 0).val / 64 = t ∧ (i 1).val / 256 = h
/-- Slot `d`, column half `h`, of a landing buffer. -/
def slot (d h : ℕ) : Finset S8x64x512.Idx :=
  Finset.univ.filter fun i => (i 0).val = d ∧ (i 2).val / 256 = h
/-- Column half `h` of the buffer of rounded rows. -/
def half (h : ℕ) : Finset S64x512.Idx :=
  Finset.univ.filter fun i => (i 1).val / 256 = h

theorem mem_chunk {t h : ℕ} {i : S512x512.Idx} : i ∈ chunk t h ↔ ((i 0).val / 64 = t ∧ (i 1).val / 256 = h) := by
  simp [chunk]
theorem mem_slot {d h : ℕ} {i : S8x64x512.Idx} : i ∈ slot d h ↔ ((i 0).val = d ∧ (i 2).val / 256 = h) := by
  simp [slot]
theorem mem_half {h : ℕ} {i : S64x512.Idx} : i ∈ half h ↔ (i 1).val / 256 = h := by
  simp [half]

/-! ## What the buffers hold -/

/-- The operands of device `c` as the kernel reads them. -/
def xS (c : Dev nD) : Vec F S512x256 .f32 := iblk m c 0 t0_0
def rwS (c : Dev nD) : Vec F S256x16 .f32 := iblk m c 1 t0_0
def idS (c : Dev nD) : Vec F S512x1 .i32 := iblk m c 2 t0_0
def ewS (c : Dev nD) : Vec F S2x256x512 .f32 := iblk m c 3 t0_0
def swS (c : Dev nD) : Vec F S256x512 .f32 := iblk m c 4 t0_0

/-- The device's number, as the kernel computes it from its own word. -/
def devW (c : Dev nD) : BitVec 32 := Scalar.remsi (Scalar.divsi (Dev.word c) 1#32) 8#32

/-- The block of partial sums of device `c`. -/
def pbF (c : Dev nD) : Vec F S512x512 .bf16 :=
  k0_pay5 (devW c) (k0_pay1 (xS m c)) (k0_pay2 (idS m c)) (k0_pay3 (xS m c) (rwS m c) (idS m c))
    (k0_pay4 (devW c) (xS m c) (rwS m c) (idS m c)) (ewS m c)

/-- The landing buffer of the first exchange on device `c`: slot `d` holds the rows of the device `d` places before. -/
def stgF (c : Dev nD) : Vec F S8x64x512 .bf16 := fun i =>
  pbF m (nbr c (8 - (i 0).val)) (ix2 (Fin.ofNat 512 (64 * c.val + (i 1).val)) (i 2))

/-- One slot of it, one half. -/
def slF (c : Dev nD) (h d : ℕ) : Vec F S1x64x256 .bf16 := fun j =>
  stgF m c (ix3 (Fin.ofNat 8 d) (j 1) (Fin.ofNat 512 (256 * h + (j 2).val)))

/-- The rows of device `c` of its own operands and partial sums. -/
def xRow (c : Dev nD) : Vec F S64x256 .f32 := fun j => xS m c (ix2 (Fin.ofNat 512 (64 * c.val + (j 0).val)) (j 1))
def pRow (c : Dev nD) : Vec F S64x512 .bf16 := fun j => pbF m c (ix2 (Fin.ofNat 512 (64 * c.val + (j 0).val)) (j 1))

/-- The sums of device `c` before any piece is added. -/
def base (c : Dev nD) : FVec F S64x512 .f32 := k0_pay6 (xRow m c) (swS m c) (pRow m c)
def base0 (c : Dev nD) : FVec F S64x256 .f32 := k0_pay7 (xRow m c) (swS m c) (pRow m c)

/-- The first half's sum after two and after four pieces. -/
def acc2 (c : Dev nD) : FVec F S64x256 .f32 := k0_pay8 (base0 m c) (slF m c 0 1) (slF m c 0 2)
def acc4 (c : Dev nD) : FVec F S64x256 .f32 := k0_pay9 (acc2 m c) (slF m c 0 3) (slF m c 0 4)
/-- The second half's. -/
def bcc2 (c : Dev nD) : FVec F S64x256 .f32 := k0_pay13 (base m c) (slF m c 1 1) (slF m c 1 2)
def bcc4 (c : Dev nD) : FVec F S64x256 .f32 := k0_pay14 (bcc2 m c) (slF m c 1 3) (slF m c 1 4)

/-- The finished sums of device `c`, by half, and the same rounded. -/
def accF (c : Dev nD) (h : ℕ) : FVec F S64x256 .f32 :=
  if h = 0 then k0_pay10 (acc4 m c) (slF m c 0 5) (slF m c 0 6) (slF m c 0 7)
  else k0_pay15 (bcc4 m c) (slF m c 1 5) (slF m c 1 6) (slF m c 1 7)
def rbH (c : Dev nD) (h : ℕ) : FVec F S64x256 .bf16 :=
  if h = 0 then k0_pay12 (k0_pay11 (acc4 m c) (slF m c 0 5) (slF m c 0 6) (slF m c 0 7))
  else k0_pay17 (k0_pay16 (bcc4 m c) (slF m c 1 5) (slF m c 1 6) (slF m c 1 7))

/-- The buffer of rounded rows of device `c`. -/
def rbF (c : Dev nD) : Vec F S64x512 .bf16 := fun i =>
  rbH m c ((i 1).val / 256) (ix2 (i 0) (Fin.ofNat 256 (i 1).val))

/-- The landing buffer of the second exchange on device `c`. -/
def st2F (c : Dev nD) : Vec F S8x64x512 .bf16 := fun i => rbF m (nbr c (8 - (i 0).val)) (ix2 (i 1) (i 2))
def tlF (c : Dev nD) (h d : ℕ) : Vec F S1x64x256 .bf16 := fun j =>
  st2F m c (ix3 (Fin.ofNat 8 d) (j 1) (Fin.ofNat 512 (256 * h + (j 2).val)))

/-- A landed piece as it is stored in the result. -/
def wide (v : Vec F S1x64x256 .bf16) : FVec F S64x256 .f32 :=
  extf .f32 (shapeCast S64x256 v shapeCasts_S1x64x256_S64x256) bitsLt_bf16_f32

/-- The result of device `c`: its own rows as it summed them, every other device's as they landed. -/
def outF (c : Dev nD) : Vec F S512x512 .f32 := fun i =>
  let t := (i 0).val / 64
  let h := (i 1).val / 256
  let j : S64x256.Idx := ix2 (Fin.ofNat 64 (i 0).val) (Fin.ofNat 256 (i 1).val)
  if t = c.val then accF m c h j else wide (tlF m c h ((c.val + 8 - t) % 8)) j

/-! ## Assertions about the pieces -/

/-- A piece of a buffer of device `c` at the given contents. -/
def chunkP (c : Dev nD) (t h : ℕ) (f : Vec F S512x512 .bf16) : sProp 𝕄 := ((c : Thread nD τ).loc pbuf) ↦[chunk t h]{fullShare} f
def slot1 (c : Dev nD) (d h : ℕ) (f : Vec F S8x64x512 .bf16) : sProp 𝕄 := ((c : Thread nD τ).loc stgB) ↦[slot d h]{fullShare} f
def slot2 (c : Dev nD) (d h : ℕ) (f : Vec F S8x64x512 .bf16) : sProp 𝕄 := ((c : Thread nD τ).loc st2B) ↦[slot d h]{fullShare} f
def halfP (c : Dev nD) (h : ℕ) (q : PosShare TreeShare) (f : Vec F S64x512 .bf16) : sProp 𝕄 := ((c : Thread nD τ).loc rbuf) ↦[half h]{q} f

omit [FloatOps F] in
instance chunkP_st (c : Dev nD) (t h) (f : Vec F S512x512 .bf16) : BI.Storable (upEmb : UEmb _ 𝕄) (chunkP (F := F) c t h f) := by unfold chunkP; infer_instance
omit [FloatOps F] in
instance slot1_st (c : Dev nD) (t h) (f : Vec F S8x64x512 .bf16) : BI.Storable (upEmb : UEmb _ 𝕄) (slot1 (F := F) c t h f) := by unfold slot1; infer_instance
omit [FloatOps F] in
instance slot2_st (c : Dev nD) (t h) (f : Vec F S8x64x512 .bf16) : BI.Storable (upEmb : UEmb _ 𝕄) (slot2 (F := F) c t h f) := by unfold slot2; infer_instance
omit [FloatOps F] in
instance halfP_st (c : Dev nD) (h q) (f : Vec F S64x512 .bf16) : BI.Storable (upEmb : UEmb _ 𝕄) (halfP (F := F) c h q f) := by unfold halfP; infer_instance

/-- Slot `d` of both landing buffers of a device, both halves, at any contents. -/
def slots (c : Dev nD) (d : ℕ) : sProp 𝕄 :=
  iprop(((∃ f, slot1 (F := F) c d 0 f) ∗ (∃ f, slot1 c d 1 f)) ∗ ((∃ f, slot2 c d 0 f) ∗ (∃ f, slot2 c d 1 f)))
omit [FloatOps F] in
instance slots_st (c : Dev nD) (d) : BI.Storable (upEmb : UEmb _ 𝕄) (slots (F := F) c d) := by unfold slots; infer_instance

/-! ## The schedule -/

/-- What the transfer semaphores of device `c` hand it: its rows back, what landed, a share of its rounded rows back,
    what landed. -/
def xPay (c : Dev nD) (k h d : ℕ) : sProp 𝕄 :=
  if k = 0 then chunkP c (nbr c d).val h (pbF m c)
  else if k = 1 then slot1 c d h (stgF m c)
  else if k = 2 then halfP c h (shareTokN fullShare (d - 1)) (rbF m c)
  else slot2 c d h (st2F m c)

instance xPay_st (c : Dev nD) (k h d) : BI.Storable (upEmb : UEmb _ 𝕄) (xPay (F := F) m c k h d) := by
  unfold xPay; (repeat' split) <;> infer_instance

/-- Every cell has one round. The barrier of device `c` has duties 1 to 7, duty `e` paid by the device `e` places on with
    its slots `e`; a transfer semaphore at distance `d` from 1 to 7 has one duty. -/
def exRd : Rounds.Schedule (GSem nD τ sig) ℕ 𝕄 where
  duties g r := if r = 0 ∧ g.1.2 = .tc then
      (match g.2 with
        | .reg s => if s = barS then Finset.Icc 1 7 else ∅
        | .dma q => if 6 ≤ q.val ∧ (q.val - 6) % 8 ≠ 0 then {0} else ∅)
    else ∅
  unitless _ := False
  amount g _ _ := match g.2 with
    | .reg _ => 1
    | .dma _ => NN
  payload g _ e := match g.2 with
    | .reg _ => slots (nbr g.1.1 e) e
    | .dma q => xPay m g.1.1 ((q.val - 6) / 16) ((q.val - 6) % 16 / 8) ((q.val - 6) % 8)
  amount_pos g _ _ _ := by
    cases g.2
    · exact Nat.one_pos
    · exact NN_pos

instance exRd_st (g : GSem nD τ sig) (r : ℕ) (d : ℕ) : BI.Storable (upEmb : UEmb _ 𝕄) ((exRd (F := F) m).payload g r d) := by
  obtain ⟨t, s | q⟩ := g
  · show BI.Storable upEmb (slots (F := F) (nbr t.1 d) d); infer_instance
  · show BI.Storable upEmb (xPay (F := F) m t.1 ((q.val - 6) / 16) ((q.val - 6) % 16 / 8) ((q.val - 6) % 8)); infer_instance

section Sched
variable (c : Dev nD)

theorem duties_later (g : GSem nD τ sig) : ∀ r, 1 ≤ r → (exRd (F := F) m).duties g r = ∅ :=
  fun r hr => by dsimp only [exRd]; exact if_neg fun h => by omega

theorem duties_bar : (exRd (F := F) m).duties (barCell c) 0 = Finset.Icc 1 7 := by
  dsimp only [exRd]; rw [if_pos ⟨rfl, rfl⟩]; exact if_pos rfl

theorem amount_bar (e : ℕ) : (exRd (F := F) m).amount (barCell c) 0 e = 1 := rfl

theorem expect_bar : (exRd (F := F) m).expect (barCell c) 0 = 7 := by
  unfold Schedule.expect Schedule.amountOf
  rw [duties_bar, Finset.sum_congr rfl fun d _ => amount_bar m c d]; rfl

theorem payload_bar (e : ℕ) : (exRd (F := F) m).payload (barCell c) 0 e = slots (nbr c e) e := rfl

variable {k h d : ℕ} (hk : k < 4) (hh : h < 2) (hd : 1 ≤ d) (hd' : d < 8)
include hk hh hd hd'

theorem duties_x : (exRd (F := F) m).duties (xCell c k h d) 0 = {0} := by
  dsimp only [exRd]; rw [if_pos ⟨rfl, rfl⟩]
  exact if_pos (by rw [dq_val k h d hk hh hd']; omega)

theorem amount_x (e : ℕ) : (exRd (F := F) m).amount (xCell c k h d) 0 e = NN := rfl

theorem expect_x : (exRd (F := F) m).expect (xCell c k h d) 0 = NN := by
  unfold Schedule.expect Schedule.amountOf
  rw [duties_x m c hk hh hd hd', Finset.sum_singleton]; rfl

theorem payload_x (e : ℕ) : (exRd (F := F) m).payload (xCell c k h d) 0 e = xPay m c k h d := by
  show xPay m c (((dq k h d).val - 6) / 16) (((dq k h d).val - 6) % 16 / 8) (((dq k h d).val - 6) % 8) = _
  rw [dq_val k h d hk hh hd']
  congr 1 <;> omega

theorem rest_x : bigSep ((exRd (F := F) m).duties (xCell c k h d) 0 \ ∅) (fun e => (exRd (F := F) m).payload (xCell c k h d) 0 e) = xPay m c k h d := by
  rw [Finset.sdiff_empty, duties_x m c hk hh hd hd', bigSep_singleton, payload_x m c hk hh hd hd']

end Sched

theorem duties_x0 (c : Dev nD) {k h : ℕ} (hk : k < 4) (hh : h < 2) : ∀ r, 0 ≤ r → (exRd (F := F) m).duties (xCell c k h 0) r = ∅ := by
  intro r _
  dsimp only [exRd]
  split
  · exact if_neg (by rw [dq_val k h 0 hk hh (by decide)]; omega)
  · rfl

theorem rest_bar (c : Dev nD) : bigSep ((exRd (F := F) m).duties (barCell c) 0 \ ∅) (fun e => (exRd (F := F) m).payload (barCell c) 0 e)
    = bigSep (Finset.Icc 1 7) fun e => slots (F := F) (nbr c e) e := by
  rw [Finset.sdiff_empty, duties_bar]; rfl

/-! ## Levels -/

def L (g : GSem nD τ sig) : Finset Unit := if g.1.2 = .tc then {()} else ∅
/-- The barrier above everything that is only sent or staged, the first exchange's landings above it, the second's on
    top. -/
def lv (g : GSem nD τ sig) (_ : Unit) : ℕ := match g.2 with
  | .reg _ => 1
  | .dma q => if 22 ≤ q.val ∧ q.val < 38 then 2 else if 54 ≤ q.val then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_x1 (c : Dev nD) {h d : ℕ} (hh : h < 2) (hd : d < 8) (u : Unit) : lv (xCell c 1 h d) u = 2 := by
  show (if 22 ≤ (dq 1 h d).val ∧ (dq 1 h d).val < 38 then 2 else _) = 2
  rw [dq_val 1 h d (by decide) hh hd]; exact if_pos (by omega)
theorem lv_x3 (c : Dev nD) {h d : ℕ} (hh : h < 2) (hd : d < 8) (u : Unit) : lv (xCell c 3 h d) u = 3 := by
  show (if 22 ≤ (dq 3 h d).val ∧ (dq 3 h d).val < 38 then 2 else if 54 ≤ (dq 3 h d).val then 3 else 0) = 3
  rw [dq_val 3 h d (by decide) hh hd, if_neg (by omega)]; exact if_pos (by omega)
theorem lv_x2 (c : Dev nD) {h d : ℕ} (hh : h < 2) (hd : d < 8) (u : Unit) : lv (xCell c 2 h d) u = 0 := by
  show (if 22 ≤ (dq 2 h d).val ∧ (dq 2 h d).val < 38 then 2 else if 54 ≤ (dq 2 h d).val then 3 else 0) = 0
  rw [dq_val 2 h d (by decide) hh hd, if_neg (by omega)]; exact if_neg (by omega)
theorem lv_x0 (c : Dev nD) {h d : ℕ} (hh : h < 2) (hd : d < 8) (u : Unit) : lv (xCell c 0 h d) u = 0 := by
  show (if 22 ≤ (dq 0 h d).val ∧ (dq 0 h d).val < 38 then 2 else if 54 ≤ (dq 0 h d).val then 3 else 0) = 0
  rw [dq_val 0 h d (by decide) hh hd, if_neg (by omega)]; exact if_neg (by omega)

end Cert.KernelIdeal.Proto

end
-- ==== Proof.Geometry.lean ====
/-
Where the kernel's accesses lie: the windows of its transfers, loads and stores, as sets of elements of the buffers, and
what a read or a write there is of the contents named in `Proto`.
-/
module

public import proofs.«01_k».proof.Proof.Proto
public import Idealize.ShloMosaic.Lib.ValueLayout

@[expose] public section

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI

variable {F : FTy → Type} [FloatOps F]
variable (m : (ℓ : Loc nD τ sig) → Buf (Elt F) ℓ)

/-! ## The windows -/

abbrev srcR (off : Fin 2 → ℕ) (inb : ∀ a, off a + S64x256.size a ≤ S512x512.size a) : Rect S512x512 :=
  Rect.unit (s := S512x512) off S64x256.size inb
abbrev slotR (off : Fin 3 → ℕ) (inb : ∀ a, off a + S1x64x256.size a ≤ S8x64x512.size a) : Rect S8x64x512 :=
  Rect.unit (s := S8x64x512) off S1x64x256.size inb
abbrev halfR (off : Fin 2 → ℕ) (inb : ∀ a, off a + S64x256.size a ≤ S64x512.size a) : Rect S64x512 :=
  Rect.unit (s := S64x512) off S64x256.size inb

theorem srcR_set {off : Fin 2 → ℕ} {inb} {t h : ℕ} (hoff : off = ![64 * t, 256 * h]) : (srcR off inb).set = chunk t h := by
  subst hoff
  ext i
  rw [Rect.mem_set_unit, mem_chunk]
  constructor
  · intro H
    have h0 := H 0; have h1 := H 1
    have e0 : 64 * t ≤ (i 0).val ∧ (i 0).val < 64 * t + 64 := h0
    have e1 : 256 * h ≤ (i 1).val ∧ (i 1).val < 256 * h + 256 := h1
    omega
  · intro H a
    match a with
    | 0 => show 64 * t ≤ (i 0).val ∧ (i 0).val < 64 * t + 64; omega
    | 1 => show 256 * h ≤ (i 1).val ∧ (i 1).val < 256 * h + 256; omega

theorem slotR_set {off : Fin 3 → ℕ} {inb} {d h : ℕ} (hoff : off = ![d, 0, 256 * h]) : (slotR off inb).set = slot d h := by
  subst hoff
  ext i
  rw [Rect.mem_set_unit, mem_slot]
  constructor
  · intro H
    have h0 := H 0; have h2 := H 2
    have e0 : d ≤ (i 0).val ∧ (i 0).val < d + 1 := h0
    have e2 : 256 * h ≤ (i 2).val ∧ (i 2).val < 256 * h + 256 := h2
    omega
  · intro H a
    match a with
    | 0 => show d ≤ (i 0).val ∧ (i 0).val < d + 1; omega
    | 1 => show 0 ≤ (i 1).val ∧ (i 1).val < 0 + 64; have : (i 1).val < 64 := (i 1).isLt; omega
    | 2 => show 256 * h ≤ (i 2).val ∧ (i 2).val < 256 * h + 256; omega

theorem halfR_set {off : Fin 2 → ℕ} {inb} {h : ℕ} (hoff : off = ![0, 256 * h]) : (halfR off inb).set = half h := by
  subst hoff
  ext i
  rw [Rect.mem_set_unit, mem_half]
  constructor
  · intro H
    have e1 : 256 * h ≤ (i 1).val ∧ (i 1).val < 256 * h + 256 := H 1
    omega
  · intro H a
    match a with
    | 0 => show 0 ≤ (i 0).val ∧ (i 0).val < 0 + 64; have : (i 0).val < 64 := (i 0).isLt; omega
    | 1 => show 256 * h ≤ (i 1).val ∧ (i 1).val < 256 * h + 256; omega

/-! ## The memrefs -/

abbrev srcM (off : Fin 2 → ℕ) (inb : ∀ a, off a + S64x256.size a ≤ S512x512.size a) : Memref sig .tc .vmem S64x256 .bf16 := (Memref.whole pbuf).slice (srcR off inb) (fun _ => rfl)
abbrev rbM (off : Fin 2 → ℕ) (inb : ∀ a, off a + S64x256.size a ≤ S64x512.size a) : Memref sig .tc .vmem S64x256 .bf16 := (Memref.whole rbuf).slice (halfR off inb) (fun _ => rfl)
abbrev s1M (off : Fin 3 → ℕ) (inb : ∀ a, off a + S1x64x256.size a ≤ S8x64x512.size a) : Memref sig .tc .vmem S64x256 .bf16 :=
  ((Memref.whole stgB).slice (slotR off inb) (fun _ => rfl)).squeeze S64x256 squeezes_S1x64x256_S64x256
abbrev s2M (off : Fin 3 → ℕ) (inb : ∀ a, off a + S1x64x256.size a ≤ S8x64x512.size a) : Memref sig .tc .vmem S64x256 .bf16 :=
  ((Memref.whole st2B).slice (slotR off inb) (fun _ => rfl)).squeeze S64x256 squeezes_S1x64x256_S64x256

theorem srcM_set {off : Fin 2 → ℕ} {inb} {t h : ℕ} (hoff : off = ![64 * t, 256 * h]) : (srcM off inb).view.set = chunk t h :=
  (View.set_slice_whole pbuf (srcR off inb)).trans (srcR_set hoff)
theorem rbM_set {off : Fin 2 → ℕ} {inb} {h : ℕ} (hoff : off = ![0, 256 * h]) : (rbM off inb).view.set = half h :=
  (View.set_slice_whole rbuf (halfR off inb)).trans (halfR_set hoff)
theorem s1M_set {off : Fin 3 → ℕ} {inb} {d h : ℕ} (hoff : off = ![d, 0, 256 * h]) : (s1M off inb).view.set = slot d h :=
  (View.set_reshape _ _).trans ((View.set_slice_whole stgB (slotR off inb)).trans (slotR_set hoff))
theorem s2M_set {off : Fin 3 → ℕ} {inb} {d h : ℕ} (hoff : off = ![d, 0, 256 * h]) : (s2M off inb).view.set = slot d h :=
  (View.set_reshape _ _).trans ((View.set_slice_whole st2B (slotR off inb)).trans (slotR_set hoff))

/-! ## Reads -/

/-- A write through a view leaves, on the view's own elements, contents that read what was written. -/
theorem write_agree {sp : Space} {s : Shape} {e : EltTy} {Val : EltTy → Type} (v : View sig .tc sp s e) (fd G : v.ty.Contents Val) (w : s.Idx → Val e)
    (h : v.read Val G = w) : ∀ i ∈ v.set, v.write Val fd w Finset.univ i = G i := by
  intro i hi
  obtain ⟨x, -, rfl⟩ := Finset.mem_map.mp hi
  rw [View.write_emb_of_mem _ _ (Finset.mem_univ x), ← h, View.read_apply, cast_cast, cast_eq]

theorem src_idx {off : Fin 2 → ℕ} {inb} {t h : ℕ} (hoff : off = ![64 * t, 256 * h]) (j : S64x256.Idx) :
    (srcR off inb).emb j = ix2 (Fin.ofNat 512 (64 * t + (j 0).val)) (Fin.ofNat 512 (256 * h + (j 1).val)) := by
  subst hoff
  have i0 : 64 * t + 64 ≤ 512 := inb 0
  have i1 : 256 * h + 256 ≤ 512 := inb 1
  have j0 : (j 0).val < 64 := (j 0).isLt
  have j1 : (j 1).val < 256 := (j 1).isLt
  funext a
  apply Fin.ext
  match a with
  | 0 => show 64 * t + 1 * (j 0).val = (64 * t + (j 0).val) % 512; omega
  | 1 => show 256 * h + 1 * (j 1).val = (256 * h + (j 1).val) % 512; omega

theorem half_idx {off : Fin 2 → ℕ} {inb} {h : ℕ} (hoff : off = ![0, 256 * h]) (j : S64x256.Idx) :
    (halfR off inb).emb j = ix2 (Fin.ofNat 64 (j 0).val) (Fin.ofNat 512 (256 * h + (j 1).val)) := by
  subst hoff
  have i1 : 256 * h + 256 ≤ 512 := inb 1
  have j0 : (j 0).val < 64 := (j 0).isLt
  have j1 : (j 1).val < 256 := (j 1).isLt
  funext a
  apply Fin.ext
  match a with
  | 0 => show 0 + 1 * (j 0).val = (j 0).val % 64; omega
  | 1 => show 256 * h + 1 * (j 1).val = (256 * h + (j 1).val) % 512; omega

theorem slot_idx {off : Fin 3 → ℕ} {inb} {d h : ℕ} (hoff : off = ![d, 0, 256 * h]) (j : S1x64x256.Idx) :
    (slotR off inb).emb j = ix3 (Fin.ofNat 8 d) (Fin.ofNat 64 (j 1).val) (Fin.ofNat 512 (256 * h + (j 2).val)) := by
  subst hoff
  have i0 : d + 1 ≤ 8 := inb 0
  have i2 : 256 * h + 256 ≤ 512 := inb 2
  have j0 : (j 0).val < 1 := (j 0).isLt
  have j1 : (j 1).val < 64 := (j 1).isLt
  have j2 : (j 2).val < 256 := (j 2).isLt
  funext a
  apply Fin.ext
  match a with
  | 0 => show d + 1 * (j 0).val = d % 8; omega
  | 1 => show 0 + 1 * (j 1).val = (j 1).val % 64; omega
  | 2 => show 256 * h + 1 * (j 2).val = (256 * h + (j 2).val) % 512; omega

/-- What a slot's load reads. -/
theorem read_slot1 (c : Dev nD) {off : Fin 3 → ℕ} {inb} {d h : ℕ} (hoff : off = ![d, 0, 256 * h]) :
    (Memref.whole stgB).view.readAt (Elt F) (slotR off inb).toLoadRect (stgF m c) = slF m c h d := by
  funext j
  show stgF m c ((slotR off inb).emb j) = stgF m c _
  rw [slot_idx hoff]
  congr 2
  exact Fin.ext (Nat.mod_eq_of_lt (j 1).isLt)
theorem read_slot2 (c : Dev nD) {off : Fin 3 → ℕ} {inb} {d h : ℕ} (hoff : off = ![d, 0, 256 * h]) :
    (Memref.whole st2B).view.readAt (Elt F) (slotR off inb).toLoadRect (st2F m c) = tlF m c h d := by
  funext j
  show st2F m c ((slotR off inb).emb j) = st2F m c _
  rw [slot_idx hoff]
  congr 2
  exact Fin.ext (Nat.mod_eq_of_lt (j 1).isLt)

theorem slF_shape (v : Vec F S8x64x512 .bf16) {off : Fin 3 → ℕ} {inb} {d h : ℕ} (hoff : off = ![d, 0, 256 * h]) (j : S64x256.Idx) :
    shapeCast S64x256 (fun x => v ((slotR off inb).emb x)) shapeCasts_S1x64x256_S64x256 j
      = v (ix3 (Fin.ofNat 8 d) (j 0) (Fin.ofNat 512 (256 * h + (j 1).val))) := by
  obtain ⟨x, y, rfl⟩ : ∃ (x : Fin 64) (y : Fin 256), j = ix2 x y := ⟨j 0, j 1, by funext a; match a with | 0 => rfl | 1 => rfl⟩
  have e : Shape.reshapeEquiv shapeCasts_S1x64x256_S64x256 (ix2 x y) = (ix3 (⟨0, Nat.one_pos⟩ : Fin 1) x y : S1x64x256.Idx) :=
    ValueIdx.reshapeEquiv_ix2_1ab _ x y
  refine (congrArg v ((congrArg (slotR off inb).emb e).trans (slot_idx hoff _))).trans (congrArg v ?_)
  funext a
  apply Fin.ext
  match a with
  | 0 => rfl
  | 1 => exact Nat.mod_eq_of_lt x.isLt
  | 2 => rfl

/-- The first exchange: what device `c` sends from its rows `64 t ..` is what the slot is to hold on device `t`. -/
theorem land1 (c : Dev nD) {off : Fin 2 → ℕ} {inb} {off' : Fin 3 → ℕ} {inb'} {d h : ℕ} (hd : d < 8) (hoff : off = ![64 * (nbr c d).val, 256 * h])
    (hoff' : off' = ![d, 0, 256 * h]) :
    (s1M off' inb').view.read (Elt F) (stgF m (nbr c d)) = (srcM off inb).view.read (Elt F) (pbF m c) := by
  funext j
  refine (slF_shape (F := F) (stgF m (nbr c d)) (inb := inb') hoff' j).trans ?_
  show _ = pbF m c ((srcR off inb).emb j)
  rw [src_idx hoff]
  show pbF m (nbr (nbr c d) (8 - d % 8)) _ = _
  rw [Nat.mod_eq_of_lt hd, nbr_back c d (by omega)]
  rfl

/-- The second: the rounded rows of device `c` are what the slot is to hold on the device `d` places on. -/
theorem land2 (c : Dev nD) {off : Fin 2 → ℕ} {inb} {off' : Fin 3 → ℕ} {inb'} {d h : ℕ} (hd : d < 8) (hoff : off = ![0, 256 * h])
    (hoff' : off' = ![d, 0, 256 * h]) :
    (s2M off' inb').view.read (Elt F) (st2F m (nbr c d)) = (rbM off inb).view.read (Elt F) (rbF m c) := by
  funext j
  refine (slF_shape (F := F) (st2F m (nbr c d)) (inb := inb') hoff' j).trans ?_
  show _ = rbF m c ((halfR off inb).emb j)
  rw [half_idx hoff]
  show rbF m (nbr (nbr c d) (8 - d % 8)) _ = _
  rw [Nat.mod_eq_of_lt hd, nbr_back c d (by omega)]
  congr 2
  exact (Fin.ext (Nat.mod_eq_of_lt (j 0).isLt)).symm

/-- The store of one rounded half. -/
theorem read_half (c : Dev nD) {off : Fin 2 → ℕ} {inb} {h : ℕ} (hoff : off = ![0, 256 * h]) :
    ((Memref.whole rbuf).access (halfR off inb)).read (Elt F) (rbF m c) = rbH m c h := by
  funext j
  show rbF m c ((halfR off inb).emb j) = _
  have i1 : 256 * h + 256 ≤ 512 := by subst hoff; exact inb 1
  have j1 : (j 1).val < 256 := (j 1).isLt
  rw [half_idx hoff]
  show rbH m c (((256 * h + (j 1).val) % 512) / 256) _ = _
  rw [show ((256 * h + (j 1).val) % 512) / 256 = h by omega]
  congr 1
  funext a
  apply Fin.ext
  match a with
  | 0 => exact Nat.mod_eq_of_lt (j 0).isLt
  | 1 => show (256 * h + (j 1).val) % 512 % 256 = (j 1).val; omega

/-- The stores of the result: device `c`'s own rows, -/
theorem read_out_own (c : Dev nD) {off : Fin 2 → ℕ} {inb} {h : ℕ} (hoff : off = ![64 * c.val, 256 * h]) :
    ((Memref.whole outB).access (srcR off inb)).read (Elt F) (outF m c) = accF m c h := by
  funext j
  show outF m c ((srcR off inb).emb j) = _
  have i1 : 256 * h + 256 ≤ 512 := by subst hoff; exact inb 1
  have j0 : (j 0).val < 64 := (j 0).isLt
  have j1 : (j 1).val < 256 := (j 1).isLt
  have hc := dev_lt c
  rw [src_idx hoff]
  have e0 : (64 * c.val + (j 0).val) % 512 / 64 = c.val := by omega
  have e1 : (256 * h + (j 1).val) % 512 / 256 = h := by omega
  show (if (64 * c.val + (j 0).val) % 512 / 64 = c.val then accF m c ((256 * h + (j 1).val) % 512 / 256) _ else _) = _
  rw [if_pos e0, e1]
  congr 1
  funext a
  apply Fin.ext
  match a with
  | 0 => show (64 * c.val + (j 0).val) % 512 % 64 = (j 0).val; omega
  | 1 => show (256 * h + (j 1).val) % 512 % 256 = (j 1).val; omega

/-- and the rows of the device `d` places before it. -/
theorem read_out (c : Dev nD) {off : Fin 2 → ℕ} {inb} {h d : ℕ} (hd : 1 ≤ d) (hd' : d < 8) (hoff : off = ![64 * (nbr c (8 - d)).val, 256 * h]) :
    ((Memref.whole outB).access (srcR off inb)).read (Elt F) (outF m c) = wide (tlF m c h d) := by
  funext j
  show outF m c ((srcR off inb).emb j) = _
  have i1 : 256 * h + 256 ≤ 512 := by subst hoff; exact inb 1
  have j0 : (j 0).val < 64 := (j 0).isLt
  have j1 : (j 1).val < 256 := (j 1).isLt
  have hc := dev_lt c
  have hn := nbr_val c (8 - d)
  rw [src_idx hoff]
  generalize (nbr c (8 - d)).val = t at hn
  have e0 : (64 * t + (j 0).val) % 512 / 64 = t := by omega
  have e1 : (256 * h + (j 1).val) % 512 / 256 = h := by omega
  show (if (64 * t + (j 0).val) % 512 / 64 = c.val then _ else
    wide (tlF m c ((256 * h + (j 1).val) % 512 / 256) ((c.val + 8 - (64 * t + (j 0).val) % 512 / 64) % 8)) _) = _
  rw [e0, e1, if_neg (by omega), show (c.val + 8 - t) % 8 = d by omega]
  congr 1
  funext a
  apply Fin.ext
  match a with
  | 0 => show (64 * t + (j 0).val) % 512 % 64 = (j 0).val; omega
  | 1 => show (256 * h + (j 1).val) % 512 % 256 = (j 1).val; omega

end Cert.KernelIdeal.Proto

end
-- ==== Proof.State.lean ====
/-
What a device holds while the kernel runs, as functions of how far it has come: how many barrier signals it has still to
give, how many pieces it has sent, received and got back in each exchange, and how much of the result it has written.
-/
module

public import proofs.«01_k».proof.Proof.Geometry
public import Mathlib.Algebra.BigOperators.Intervals

@[expose] public section

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ UU ℕ

variable (m : (ℓ : Loc nD τ sig) → Buf (Elt F) ℓ)

/-! ## The cells of all devices -/

/-- A device with nothing (its barrier) or one of its 64 transfer semaphores. -/
abbrev Cell : Type := Dev nD × Option (Fin 64)
def csem : Option (Fin 64) → SemLoc sig
  | none => .reg barS
  | some i => osem i
def cellAt (x : Cell) : GSem nD τ sig := ((x.1 : Thread nD τ), csem x.2)

def xi (k h d : ℕ) : Fin 64 := Fin.ofNat 64 (16 * k + 8 * h + d)

theorem osem_xi {k h d : ℕ} (hk : k < 4) (hh : h < 2) (hd : d < 8) : osem (xi k h d) = .dma (dq k h d) := by
  refine congrArg SemLoc.dma (Fin.ext ?_)
  rw [dq_val k h d hk hh hd]
  show (6 + (16 * k + 8 * h + d) % 64) % 70 = _
  omega

theorem cellAt_x (c : Dev nD) {k h d : ℕ} (hk : k < 4) (hh : h < 2) (hd : d < 8) : cellAt (c, some (xi k h d)) = xCell c k h d :=
  congrArg (fun s => ((c : Thread nD τ), s)) (osem_xi hk hh hd)

/-- What every device knows: the invariants of all cells, that all are at their first round, and the levels. -/
def Ctx (K : Cell → ℕ) : sProp 𝕄 :=
  iprop((bigSep Finset.univ fun x : Cell => cellInv ER (exRd m) (K x) (cellAt x)) ∗ (bigSep Finset.univ fun x : Cell => reached ER (cellAt x) 0) ∗ levAts L lv)

instance Ctx_persistent (K : Cell → ℕ) : BI.Persistent (Ctx (F := F) m K) := by unfold Ctx; infer_instance

variable (K : Cell → ℕ)

theorem inv_at (x : Cell) : (bigSep Finset.univ fun x : Cell => (cellInv ER (exRd m) (K x) (cellAt x) : sProp 𝕄)) ⊢ cellInv ER (exRd m) (K x) (cellAt x) :=
  bigSep_elim (Finset.mem_univ x)
theorem reached_at (x : Cell) : (bigSep Finset.univ fun x : Cell => (reached ER (cellAt x) 0 : sProp 𝕄)) ⊢ reached ER (cellAt x) 0 :=
  bigSep_elim (Finset.mem_univ x)

theorem ctx_inv_bar (c : Dev nD) : Ctx m K ⊢ cellInv ER (exRd m) (K (c, none)) (barCell c) := by
  unfold Ctx
  iintro ⟨H, -, -⟩
  iapply (inv_at m K (c, none)); iexact H

theorem ctx_reached_bar (c : Dev nD) : Ctx m K ⊢ reached ER (barCell c) 0 := by
  unfold Ctx
  iintro ⟨-, H, -⟩
  iapply (reached_at (c, none)); iexact H

theorem ctx_inv_x (c : Dev nD) {k h d : ℕ} (hk : k < 4) (hh : h < 2) (hd : d < 8) :
    Ctx m K ⊢ cellInv ER (exRd m) (K (c, some (xi k h d))) (xCell c k h d) := by
  unfold Ctx
  rw [← cellAt_x c hk hh hd]
  iintro ⟨H, -, -⟩
  iapply (inv_at m K (c, some (xi k h d))); iexact H

theorem ctx_reached_x (c : Dev nD) {k h d : ℕ} (hk : k < 4) (hh : h < 2) (hd : d < 8) :
    Ctx m K ⊢ reached ER (xCell c k h d) 0 := by
  unfold Ctx
  rw [← cellAt_x c hk hh hd]
  iintro ⟨-, H, -⟩
  iapply (reached_at (c, some (xi k h d))); iexact H

theorem ctx_lev : Ctx m K ⊢ levAts L lv := by
  unfold Ctx
  iintro ⟨-, -, H⟩
  iexact H

/-! ## What a device owes -/

/-- With `b` barrier signals to give, and the pieces from `s1` on of the first and from `s2` on of the second exchange to
    send. Piece `i` is column half `i / 7` for the device `i % 7 + 1` places on. -/
def Owe (c : Dev nD) (b s1 s2 : ℕ) : CellTallies nD τ sig Unit :=
  (∑ i ∈ Finset.Ico s2 14, tallyAt (xCell (nbr c (i % 7 + 1)) 3 (i / 7) (i % 7 + 1)) () NN)
    + (∑ i ∈ Finset.Ico s1 14, tallyAt (xCell (nbr c (i % 7 + 1)) 1 (i / 7) (i % 7 + 1)) () NN)
    + ∑ e ∈ Finset.Icc 1 b, tallyAt (barCell (nbr c (8 - e))) () 1

theorem owe_bar (c : Dev nD) (b s1 s2 : ℕ) :
    Owe c (b + 1) s1 s2 = Owe c b s1 s2 + tallyAt (barCell (nbr c (8 - (b + 1)))) () 1 := by
  unfold Owe
  rw [Finset.sum_Icc_succ_top (Nat.le_add_left 1 b), ← add_assoc]

theorem owe_one (c : Dev nD) (s1 s2 : ℕ) (h : s1 < 14) :
    Owe c 0 s1 s2 = Owe c 0 (s1 + 1) s2 + tallyAt (xCell (nbr c (s1 % 7 + 1)) 1 (s1 / 7) (s1 % 7 + 1)) () NN := by
  unfold Owe
  rw [Finset.sum_eq_sum_Ico_succ_bot h]
  simp only [show Finset.Icc 1 0 = (∅ : Finset ℕ) from rfl, Finset.sum_empty, add_zero]
  rw [add_comm (tallyAt _ _ _), ← add_assoc]

theorem owe_two (c : Dev nD) (s1 s2 : ℕ) (h : s2 < 14) :
    Owe c 0 s1 s2 = Owe c 0 s1 (s2 + 1) + tallyAt (xCell (nbr c (s2 % 7 + 1)) 3 (s2 / 7) (s2 % 7 + 1)) () NN := by
  unfold Owe
  rw [Finset.sum_eq_sum_Ico_succ_bot h]
  simp only [show Finset.Icc 1 0 = (∅ : Finset ℕ) from rfl, Finset.sum_empty, add_zero]
  rw [add_comm (tallyAt _ _ _), add_assoc, add_assoc, add_comm (tallyAt _ _ _)]

theorem owe_done (c : Dev nD) : Owe c 0 14 14 = 0 := by
  unfold Owe
  simp only [Finset.Ico_self, show Finset.Icc 1 0 = (∅ : Finset ℕ) from rfl, Finset.sum_empty, add_zero]

/-- A sum of tallies is positive only at one of their cells. -/
theorem tallies_pos {I : Type} [DecidableEq I] (s : Finset I) (g' : I → GSem nD τ sig) (n : ℕ) (g : GSem nD τ sig) (u : Unit)
    (h : 0 < (∑ i ∈ s, (tallyAt (g' i) () n : CellTallies nD τ sig Unit)) g u) : ∃ i ∈ s, g = g' i := by
  induction s using Finset.induction_on with
  | empty => rw [Finset.sum_empty] at h; exact absurd h (Nat.lt_irrefl 0)
  | insert a s ha ih =>
    rw [Finset.sum_insert ha, Pi.add_apply, Finsupp.add_apply, tallyAt_apply] at h
    by_cases e : g = g' a ∧ u = ()
    · exact ⟨a, Finset.mem_insert_self a s, e.1⟩
    · rw [if_neg e, Nat.zero_add] at h
      obtain ⟨i, hi, hg⟩ := ih h
      exact ⟨i, Finset.mem_insert_of_mem hi, hg⟩

theorem owe_pos {c : Dev nD} {b s1 s2 : ℕ} {g : GSem nD τ sig} {u : Unit} (h : 0 < Owe c b s1 s2 g u) :
    (∃ d h : ℕ, ∃ c' : Dev nD, h < 2 ∧ d < 8 ∧ g = xCell c' 3 h d)
      ∨ (s1 < 14 ∧ ∃ d h : ℕ, ∃ c' : Dev nD, h < 2 ∧ d < 8 ∧ g = xCell c' 1 h d) ∨ (0 < b ∧ ∃ c' : Dev nD, g = barCell c') := by
  unfold Owe at h
  rw [Pi.add_apply, Finsupp.add_apply, Pi.add_apply, Finsupp.add_apply] at h
  rcases Nat.eq_zero_or_pos ((∑ e ∈ Finset.Icc 1 b, (tallyAt (barCell (nbr c (8 - e))) () 1 : CellTallies nD τ sig Unit)) g u) with h3 | h3
  · rcases Nat.eq_zero_or_pos ((∑ i ∈ Finset.Ico s1 14, (tallyAt (xCell (nbr c (i % 7 + 1)) 1 (i / 7) (i % 7 + 1)) () NN : CellTallies nD τ sig Unit)) g u) with h2 | h2
    · rw [h3, h2] at h
      obtain ⟨i, hi, hg⟩ := tallies_pos _ _ _ _ _ h
      have := Finset.mem_Ico.mp hi
      exact .inl ⟨i % 7 + 1, i / 7, _, by omega, by omega, hg⟩
    · obtain ⟨i, hi, hg⟩ := tallies_pos _ _ _ _ _ h2
      have := Finset.mem_Ico.mp hi
      exact .inr (.inl ⟨by omega, i % 7 + 1, i / 7, _, by omega, by omega, hg⟩)
  · obtain ⟨i, hi, hg⟩ := tallies_pos _ _ _ _ _ h3
    have := Finset.mem_Icc.mp hi
    exact .inr (.inr ⟨by omega, _, hg⟩)

/-- Waiting on a semaphore is safe below everything owed. -/
theorem mayWait_of (c : Dev nD) (sm : SemLoc sig) (b s1 s2 l : ℕ) (hl : lv ((c : Thread nD τ), sm) () ≤ l)
    (h3 : l < 3) (h2 : s1 < 14 → l < 2) (h1 : 0 < b → l < 1) :
    (levAts L lv : sProp 𝕄) ⊢ MayWait (c : Thread nD τ) sm () (Owe c b s1 s2) :=
  MayOwe.of_cut (L := L) (lev := lv) l (fun p hp => by rw [Finset.mem_singleton.mp hp, L_tc]; exact Finset.mem_singleton_self _)
    (fun g u hg => by
      rcases owe_pos hg with ⟨_, _, _, _, _, rfl⟩ | ⟨_, _, _, _, _, _, rfl⟩ | ⟨_, _, rfl⟩ <;> exact Finset.mem_singleton_self _)
    (fun p hp => by rw [Finset.mem_singleton.mp hp]; exact hl)
    (fun g u hg => by
      rcases owe_pos hg with ⟨d, h, c', hh, hd, rfl⟩ | ⟨h14, d, h, c', hh, hd, rfl⟩ | ⟨hb, c', rfl⟩
      · rw [lv_x3 c' hh hd]; exact h3
      · rw [lv_x1 c' hh hd]; exact h2 h14
      · rw [lv_bar]; exact h1 hb)

/-! ## Families over the fourteen pieces -/

/-- Room for a piece on the device it goes to. -/
def room (c : Dev nD) (k h d : ℕ) : sProp 𝕄 := if k = 0 then iprop(∃ f, slot1 (F := F) c d h f) else iprop(∃ f, slot2 (F := F) c d h f)

/-- Piece `i` of exchange `k` (0 or 2) not yet sent: the tokens to pay with, the place at the sending semaphore, -/
def tks (c : Dev nD) (k i : ℕ) : sProp 𝕄 :=
  iprop(dutyTok ER (xCell c k (i / 7) (i % 7 + 1)) 0 0 ∗ dutyTok ER (xCell (nbr c (i % 7 + 1)) (k + 1) (i / 7) (i % 7 + 1)) 0 0
    ∗ atPos ER (xCell c k (i / 7) (i % 7 + 1)) 0 ∅ 0)
/-- and once the barrier has been passed the room there; -/
def ready (c : Dev nD) (k i : ℕ) : sProp 𝕄 := iprop(tks (F := F) c k i ∗ room (nbr c (i % 7 + 1)) k (i / 7) (i % 7 + 1))
/-- on its way, or expected: the credit to wait with; -/
def pending (c : Dev nD) (k i : ℕ) : sProp 𝕄 :=
  iprop(cred (tallyAt (xCell c k (i / 7) (i % 7 + 1)) () NN) ∗ atPos ER (xCell c k (i / 7) (i % 7 + 1)) 0 ∅ 0)
/-- and done: the semaphore at zero and what came with it. -/
def done (c : Dev nD) (k i : ℕ) : sProp 𝕄 :=
  iprop(semVal (xCell c k (i / 7) (i % 7 + 1)) 0 ∗ xPay m c k (i / 7) (i % 7 + 1))

/-- The pieces sent in exchange `k`: those before `e` back, those before `s` on their way. -/
def outs (c : Dev nD) (k s e : ℕ) : sProp 𝕄 :=
  bigSep (Finset.range 14) fun i => if i < e then done m c k i else if i < s then pending c k i else ready c k i
/-- The pieces received. -/
def ins (c : Dev nD) (k w : ℕ) : sProp 𝕄 :=
  bigSep (Finset.range 14) fun i => if i < w then done m c k i else pending c k i

theorem bigSep_upd {I : Type} [DecidableEq I] {s : Finset I} {i : I} (hi : i ∈ s) {Φ Ψ : I → sProp 𝕄} (h : ∀ j ∈ s, j ≠ i → Φ j = Ψ j) :
    bigSep s Φ ⊢ iprop(Φ i ∗ (Ψ i -∗ bigSep s Ψ)) := by
  rw [bigSep_erase hi, bigSep_erase (Φ := Ψ) hi,
    bigSep_congr (s := s.erase i) (Φ := Φ) (Ψ := Ψ) fun j hj => h j (Finset.mem_of_mem_erase hj) (Finset.ne_of_mem_erase hj)]
  show iprop(Φ i ∗ bigSep (s.erase i) Ψ) ⊢ iprop(Φ i ∗ (Ψ i -∗ Ψ i ∗ bigSep (s.erase i) Ψ))
  iintro ⟨H, Hr⟩
  isplitl [H]; · iexact H
  iintro H'
  isplitl [H']; · iexact H'
  iexact Hr

theorem outs_send (c : Dev nD) (k : ℕ) {s : ℕ} (hs : s < 14) :
    outs m c k s 0 ⊢ iprop(ready c k s ∗ (pending c k s -∗ outs m c k (s + 1) 0)) := by
  unfold outs
  refine (bigSep_upd (Finset.mem_range.mpr hs)
    (Ψ := fun i => if i < 0 then done m c k i else if i < s + 1 then pending c k i else ready c k i) fun j _ hj => ?_).trans ?_
  · rw [if_neg (Nat.not_lt_zero j), if_neg (Nat.not_lt_zero j)]
    by_cases h : j < s
    · rw [if_pos h, if_pos (by omega)]
    · rw [if_neg h, if_neg (by omega)]
  · simp only [Nat.not_lt_zero, if_false, Nat.lt_irrefl, Nat.lt_succ_self, if_true]
    exact .refl

theorem outs_back (c : Dev nD) (k : ℕ) {e : ℕ} (he : e < 14) :
    outs m c k 14 e ⊢ iprop(pending c k e ∗ (done m c k e -∗ outs m c k 14 (e + 1))) := by
  unfold outs
  refine (bigSep_upd (Finset.mem_range.mpr he)
    (Ψ := fun i => if i < e + 1 then done m c k i else if i < 14 then pending c k i else ready c k i) fun j _ hj => ?_).trans ?_
  · by_cases h : j < e
    · rw [if_pos h, if_pos (by omega)]
    · rw [if_neg h, if_neg (by omega : ¬ j < e + 1)]
  · simp only [Nat.lt_irrefl, if_false, he, Nat.lt_succ_self, if_true]
    exact .refl

theorem ins_wait (c : Dev nD) (k : ℕ) {w : ℕ} (hw : w < 14) :
    ins m c k w ⊢ iprop(pending c k w ∗ (done m c k w -∗ ins m c k (w + 1))) := by
  unfold ins
  refine (bigSep_upd (Finset.mem_range.mpr hw) (Ψ := fun i => if i < w + 1 then done m c k i else pending c k i) fun j _ hj => ?_).trans ?_
  · by_cases h : j < w
    · rw [if_pos h, if_pos (by omega)]
    · rw [if_neg h, if_neg (by omega)]
  · simp only [Nat.lt_irrefl, if_false, Nat.lt_succ_self, if_true]
    exact .refl

theorem ins_look (c : Dev nD) (k : ℕ) {w i : ℕ} (hi : i < w) (hw : w ≤ 14) :
    ins m c k w ⊢ iprop(done m c k i ∗ (done m c k i -∗ ins m c k w)) := by
  unfold ins
  refine (bigSep_upd (Finset.mem_range.mpr (by omega : i < 14)) (Ψ := fun i => if i < w then done m c k i else pending c k i) fun _ _ _ => rfl).trans ?_
  simp only [hi, if_true]
  exact .refl

/-! ## Buffers -/

/-- The five operands as staged. -/
def inp (c : Dev nD) : sProp 𝕄 :=
  iprop(((c : Thread nD τ).loc cc0_stg0_0 ↦{fullShare} xS m c) ∗ ((c : Thread nD τ).loc cc0_stg1_0 ↦{fullShare} rwS m c)
    ∗ ((c : Thread nD τ).loc cc0_stg2_0 ↦{fullShare} idS m c) ∗ ((c : Thread nD τ).loc cc0_stg3_0 ↦{fullShare} ewS m c)
    ∗ ((c : Thread nD τ).loc cc0_stg4_0 ↦{fullShare} swS m c))

/-- A device's own rows of a 512 by 512 buffer. -/
def ownRows (c : Dev nD) : Finset S512x512.Idx := Finset.univ.filter fun i => (i 0).val / 64 = c.val
theorem mem_ownRows {c : Dev nD} {i : S512x512.Idx} : i ∈ ownRows c ↔ (i 0).val / 64 = c.val := by simp [ownRows]
def ownP (c : Dev nD) : sProp 𝕄 := ((c : Thread nD τ).loc pbuf) ↦[ownRows c]{fullShare} pbF m c

/-- The rows not yet sent. -/
def unsent (c : Dev nD) (s : ℕ) : sProp 𝕄 := bigSep (Finset.Ico s 14) fun i => xPay m c 0 (i / 7) (i % 7 + 1)

/-- The rounded rows with `r` halves stored and `s` pieces sent: what stays of each half, and the shares to send with. -/
def rows (c : Dev nD) (r h : ℕ) : sProp 𝕄 :=
  if h < r then halfP c h (shareDrop fullShare 7) (rbF m c) else iprop(∃ f, halfP (F := F) c h fullShare f)
def shares (c : Dev nD) (r s : ℕ) : sProp 𝕄 := bigSep (Finset.Ico s (7 * r)) fun i => xPay m c 2 (i / 7) (i % 7 + 1)

/-- The result with `r` own halves and `o` landed pieces written. -/
def Written (c : Dev nD) (r o : ℕ) (f : Vec F S512x512 .f32) : Prop :=
  (∀ h < r, ∀ i ∈ chunk c.val h, f i = outF m c i) ∧ (∀ k < o, ∀ i ∈ chunk (nbr c (8 - (k % 7 + 1))).val (k / 7), f i = outF m c i)
def res (c : Dev nD) (r o : ℕ) : sProp 𝕄 :=
  iprop(∃ f : Vec F S512x512 .f32, ⌜Written m c r o f⌝ ∗ ((c : Thread nD τ).loc outB ↦{fullShare} f))

/-! ## The states -/

/-- Before the barrier is passed, with `b` signals to give. -/
def Early (c : Dev nD) (R : sProp 𝕄) (b : ℕ) (st : Prop) : sProp 𝕄 :=
  iprop(Ctx m K ∗ inp m c ∗ (∃ W, owes (c : Thread nD τ) (Owe c b 0 0) W)
    ∗ (bigSep (Finset.Icc 1 b) fun e => iprop(dutyTok ER (barCell (nbr c (8 - e))) 0 e ∗ slots (F := F) c e))
    ∗ (cred (tallyAt (barCell c) () 7) ∗ atPos ER (barCell c) 0 ∅ 0)
    ∗ (∃ f : Vec F S512x512 .bf16, ⌜st → f = pbF m c⌝ ∗ ((c : Thread nD τ).loc pbuf ↦{fullShare} f))
    ∗ bigSep (Finset.range 14) (tks c 0) ∗ bigSep (Finset.range 14) (tks c 2)
    ∗ ins m c 1 0 ∗ ins m c 3 0
    ∗ (rows m c 0 0 ∗ rows m c 0 1) ∗ res m c 0 0 ∗ R)

/-- After it. -/
def Main (c : Dev nD) (R : sProp 𝕄) (s1 w1 r s2 w2 o e1 e2 : ℕ) : sProp 𝕄 :=
  iprop(Ctx m K ∗ inp m c ∗ (∃ W, owes (c : Thread nD τ) (Owe c 0 s1 s2) W)
    ∗ semVal (barCell c) 0 ∗ ownP m c ∗ unsent m c s1 ∗ outs m c 0 s1 e1 ∗ ins m c 1 w1
    ∗ (rows m c r 0 ∗ rows m c r 1) ∗ shares m c r s2 ∗ outs m c 2 s2 e2 ∗ ins m c 3 w2
    ∗ res m c r o ∗ R)

end Cert.KernelIdeal.Proto

end
-- ==== Proof.Steps.lean ====
/-
One lemma for each kind of operation of the kernel: from what the device holds before it to what it holds after.
-/
module

public import proofs.«01_k».proof.Proof.State

@[expose] public section

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ UU ℕ

abbrev 𝒱₀ : Variants := Variants.none

/-- The program's obligation on core `c`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (K : Cell → ℕ) (c : Dev nD) (R : sProp (MT nD τ sig Unit (Elt F) ℕ UU ℕ))
variable {α : Type} {Q : α → sProp (MT nD τ sig Unit (Elt F) ℕ UU ℕ)}

/-! ## Before the barrier -/

theorem step_signal (b : ℕ) (st : Prop) {n : Dev nD} (hb : b < 7) (hn : n = nbr c (7 - b))
    {k : PUnit → Prog (TpuEff nD τ sig (Elt F) Λ₀ .tc) α}
    (h : Early m K c R b st ⊢ runs c (k ⟨⟩) Q) :
    Early m K c R (b + 1) st ⊢ runs c (.op (.semSignal (n : Thread nD τ) barS 1) k) Q := by
  have e : 8 - (b + 1) = 7 - b := by omega
  have e' : nbr (nbr c (7 - b)) (b + 1) = c := by
    rw [nbr_nbr, show 7 - b + (b + 1) = 8 by omega, nbr_eight]
  subst hn
  unfold Early
  rw [show Finset.Icc 1 (b + 1) = insert (b + 1) (Finset.Icc 1 b) by ext x; simp only [Finset.mem_Icc, Finset.mem_insert]; omega,
    bigSep_insert (by rw [Finset.mem_Icc]; omega), e]
  iintro ⟨#HC, HI, ⟨%W, HO⟩, Hsig, Hb, Hp, H1, H2, H3, H4, H5, H6, HR⟩
  ihave Hsig := (show _ ⊢ iprop((dutyTok ER (barCell (nbr c (7 - b))) 0 (b + 1) ∗ slots (F := F) c (b + 1))
      ∗ bigSep (Finset.Icc 1 b) fun e => iprop(dutyTok ER (barCell (nbr c (8 - e))) 0 e ∗ slots (F := F) c e)) from .refl) $$ Hsig
  icases Hsig with ⟨⟨Ht, Hs⟩, Hsig⟩
  iapply (Rounds.wp_signal 𝒱₀ ER (exRd m) (c : Thread nD τ) none (dst := (nbr c (7 - b) : Thread nD τ)) (κ := K (nbr c (7 - b), none))
      (r := 0) (d := b + 1) (by rw [duties_bar]; exact Finset.mem_Icc.mpr ⟨by omega, by omega⟩) (amount_bar m (nbr c (7 - b)) (b + 1)) ()
      (O₀ := Owe c (b + 1) 0 0) (Owe c b 0 0) (by rw [owe_bar, e])) $$ [HO Ht Hs]
  · isplitr; · iapply (ctx_inv_bar m K (nbr c (7 - b))); iexact HC
    isplitl [HO]; · iexact HO
    isplitl [Ht]; · iexact Ht
    isplitl [Hs]; · rw [payload_bar, e']; iexact Hs
    iapply (ctx_reached_bar m K (nbr c (7 - b))); iexact HC
  iintro HO
  iapply h
  unfold Early
  isplitr; · iexact HC
  isplitl [HI]; · iexact HI
  isplitl [HO]; · iexists W; iexact HO
  isplitl [Hsig]; · iexact Hsig
  isplitl [Hb]; · iexact Hb
  isplitl [Hp]; · iexact Hp
  isplitl [H1]; · iexact H1
  isplitl [H2]; · iexact H2
  isplitl [H3]; · iexact H3
  isplitl [H4]; · iexact H4
  isplitl [H5]; · iexact H5
  isplitl [H6]; · iexact H6
  iexact HR

/-- A load, from whatever holds the elements it reads. -/
theorem step_load {S : sProp 𝕄} {cs : CoreSpace} {s : Shape} {e : EltTy} {mm : Memref sig .tc cs s e} {r : LoadRect s} {hl : mm.view.LoadsAt r}
    {k : (r.shape.Idx → Elt F e) → Prog (TpuEff nD τ sig (Elt F) Λ₀ .tc) α}
    {I : Finset (Idx (mm.view.loc (c : Thread nD τ)))} {q : PosShare TreeShare} {f : Buf (Elt F) (mm.view.loc (c : Thread nD τ))} {v : r.shape.Idx → Elt F e}
    (hI : mm.view.setOn r.set ⊆ I) (hv : mm.view.readAt (Elt F) r f = v)
    (hs : S ⊢ iprop((mm.view.loc (c : Thread nD τ) ↦[I]{q} f) ∗ ((mm.view.loc (c : Thread nD τ) ↦[I]{q} f) -∗ S)))
    (h : S ⊢ runs c (k v) Q) : S ⊢ runs c (.op (.load mm r hl) k) Q := by
  subst hv
  refine hs.trans ?_
  iintro ⟨HP, HS⟩
  iapply (wp_load 𝒱₀ (c : Thread nD τ) none Set.univ (m := mm) hI) $$ HP
  iintro HP
  iapply h
  iapply HS; iexact HP

theorem early_inp (b : ℕ) (st : Prop) : Early m K c R b st ⊢ iprop(inp m c ∗ (inp m c -∗ Early m K c R b st)) := by
  unfold Early
  iintro ⟨#HC, HI, Hr⟩
  isplitl [HI]; · iexact HI
  iintro HI
  isplitr; · iexact HC
  isplitl [HI]; · iexact HI
  iexact Hr

theorem main_inp (s1 w1 r s2 w2 o e1 e2 : ℕ) : Main m K c R s1 w1 r s2 w2 o e1 e2 ⊢ iprop(inp m c ∗ (inp m c -∗ Main m K c R s1 w1 r s2 w2 o e1 e2)) := by
  unfold Main
  iintro ⟨#HC, HI, Hr⟩
  isplitl [HI]; · iexact HI
  iintro HI
  isplitr; · iexact HC
  isplitl [HI]; · iexact HI
  iexact Hr

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

/-- Part of a part of a state. -/
theorem part_of {S T P : sProp 𝕄} (hs : S ⊢ iprop(T ∗ (T -∗ S))) (ht : T ⊢ iprop(P ∗ (P -∗ T))) : S ⊢ iprop(P ∗ (P -∗ S)) := by
  refine hs.trans ?_
  iintro ⟨HT, HS⟩
  ihave H := ht $$ HT
  icases H with ⟨HP, HT⟩
  isplitl [HP]; · iexact HP
  iintro HP
  iapply HS
  iapply HT; iexact HP

theorem inp_0 : inp m c ⊢ iprop(((c : Thread nD τ).loc cc0_stg0_0 ↦{fullShare} xS m c)
    ∗ (((c : Thread nD τ).loc cc0_stg0_0 ↦{fullShare} xS m c) -∗ inp m c)) := by
  unfold inp
  iintro ⟨H0, H1, H2, H3, H4⟩
  isplitl [H0]; · iexact H0
  iintro H0
  isplitl [H0]; · iexact H0
  isplitl [H1]; · iexact H1
  isplitl [H2]; · iexact H2
  isplitl [H3]; · iexact H3
  iexact H4
theorem inp_1 : inp m c ⊢ iprop(((c : Thread nD τ).loc cc0_stg1_0 ↦{fullShare} rwS m c)
    ∗ (((c : Thread nD τ).loc cc0_stg1_0 ↦{fullShare} rwS m c) -∗ inp m c)) := by
  unfold inp
  iintro ⟨H0, H1, H2, H3, H4⟩
  isplitl [H1]; · iexact H1
  iintro H1
  isplitl [H0]; · iexact H0
  isplitl [H1]; · iexact H1
  isplitl [H2]; · iexact H2
  isplitl [H3]; · iexact H3
  iexact H4
theorem inp_2 : inp m c ⊢ iprop(((c : Thread nD τ).loc cc0_stg2_0 ↦{fullShare} idS m c)
    ∗ (((c : Thread nD τ).loc cc0_stg2_0 ↦{fullShare} idS m c) -∗ inp m c)) := by
  unfold inp
  iintro ⟨H0, H1, H2, H3, H4⟩
  isplitl [H2]; · iexact H2
  iintro H2
  isplitl [H0]; · iexact H0
  isplitl [H1]; · iexact H1
  isplitl [H2]; · iexact H2
  isplitl [H3]; · iexact H3
  iexact H4
theorem inp_3 : inp m c ⊢ iprop(((c : Thread nD τ).loc cc0_stg3_0 ↦{fullShare} ewS m c)
    ∗ (((c : Thread nD τ).loc cc0_stg3_0 ↦{fullShare} ewS m c) -∗ inp m c)) := by
  unfold inp
  iintro ⟨H0, H1, H2, H3, H4⟩
  isplitl [H3]; · iexact H3
  iintro H3
  isplitl [H0]; · iexact H0
  isplitl [H1]; · iexact H1
  isplitl [H2]; · iexact H2
  isplitl [H3]; · iexact H3
  iexact H4
theorem inp_4 : inp m c ⊢ iprop(((c : Thread nD τ).loc cc0_stg4_0 ↦{fullShare} swS m c)
    ∗ (((c : Thread nD τ).loc cc0_stg4_0 ↦{fullShare} swS m c) -∗ inp m c)) := by
  unfold inp
  iintro ⟨H0, H1, H2, H3, H4⟩
  isplitl [H4]; · iexact H4
  iintro H4
  isplitl [H0]; · iexact H0
  isplitl [H1]; · iexact H1
  isplitl [H2]; · iexact H2
  isplitl [H3]; · iexact H3
  iexact H4

theorem read_whole0 {inb} : (Memref.whole cc0_stg0_0 : Memref sig .tc .vmem S512x256 .f32).view.readAt (Elt F) (Rect.unit (s := S512x256) ![0, 0] S512x256.size inb).toLoadRect (xS m c) = xS m c :=
  Memref.readAt_unit_zero (Elt F) cc0_stg0_0 hz2 _ _
theorem read_whole1 {inb} : (Memref.whole cc0_stg1_0 : Memref sig .tc .vmem S256x16 .f32).view.readAt (Elt F) (Rect.unit (s := S256x16) ![0, 0] S256x16.size inb).toLoadRect (rwS m c) = rwS m c :=
  Memref.readAt_unit_zero (Elt F) cc0_stg1_0 hz2 _ _
theorem read_whole2 {inb} : (Memref.whole cc0_stg2_0 : Memref sig .tc .vmem S512x1 .i32).view.readAt (Elt F) (Rect.unit (s := S512x1) ![0, 0] S512x1.size inb).toLoadRect (idS m c) = idS m c :=
  Memref.readAt_unit_zero (Elt F) cc0_stg2_0 hz2 _ _
theorem read_whole3 {inb} : (Memref.whole cc0_stg3_0 : Memref sig .tc .vmem S2x256x512 .f32).view.readAt (Elt F) (Rect.unit (s := S2x256x512) ![0, 0, 0] S2x256x512.size inb).toLoadRect (ewS m c) = ewS m c :=
  Memref.readAt_unit_zero (Elt F) cc0_stg3_0 hz3 _ _
theorem read_whole4 {inb} : (Memref.whole cc0_stg4_0 : Memref sig .tc .vmem S256x512 .f32).view.readAt (Elt F) (Rect.unit (s := S256x512) ![0, 0] S256x512.size inb).toLoadRect (swS m c) = swS m c :=
  Memref.readAt_unit_zero (Elt F) cc0_stg4_0 hz2 _ _

theorem read_xRow {off : Fin 2 → ℕ} {inb} (hoff : off = ![64 * c.val, 0]) :
    (Memref.whole cc0_stg0_0 : Memref sig .tc .vmem S512x256 .f32).view.readAt (Elt F) (Rect.unit (s := S512x256) off S64x256.size inb).toLoadRect (xS m c) = xRow m c := by
  subst hoff
  have hc := dev_lt c
  funext j
  show xS m c ((Rect.unit (s := S512x256) ![64 * c.val, 0] S64x256.size inb).emb j) = xS m c _
  refine congrArg _ (funext fun a => Fin.ext ?_)
  have j0 : (j 0).val < 64 := (j 0).isLt
  match a with
  | 0 => show 64 * c.val + 1 * (j 0).val = (64 * c.val + (j 0).val) % 512; omega
  | 1 => show 0 + 1 * (j 1).val = (j 1).val; omega

theorem read_pRow {off : Fin 2 → ℕ} {inb} (hoff : off = ![64 * c.val, 0]) :
    (Memref.whole pbuf : Memref sig .tc .vmem S512x512 .bf16).view.readAt (Elt F) (Rect.unit (s := S512x512) off S64x512.size inb).toLoadRect (pbF m c) = pRow m c := by
  subst hoff
  have hc := dev_lt c
  funext j
  show pbF m c ((Rect.unit (s := S512x512) ![64 * c.val, 0] S64x512.size inb).emb j) = pbF m c _
  refine congrArg _ (funext fun a => Fin.ext ?_)
  have j0 : (j 0).val < 64 := (j 0).isLt
  match a with
  | 0 => show 64 * c.val + 1 * (j 0).val = (64 * c.val + (j 0).val) % 512; omega
  | 1 => show 0 + 1 * (j 1).val = (j 1).val; omega

theorem own_sub {off : Fin 2 → ℕ} {inb} (hoff : off = ![64 * c.val, 0]) :
    (Memref.whole pbuf : Memref sig .tc .vmem S512x512 .bf16).view.setOn (Rect.unit (s := S512x512) off S64x512.size inb).toLoadRect.set ⊆ ownRows c := by
  subst hoff
  intro i hi
  rw [mem_ownRows]
  obtain ⟨x, hx, rfl⟩ := Finset.mem_map.mp hi
  have h0 := (Rect.mem_set_unit.mp hx) 0
  have h0 : 64 * c.val ≤ (x 0).val ∧ (x 0).val < 64 * c.val + 64 := h0
  show (x 0).val / 64 = c.val
  omega

theorem main_own (s1 w1 r s2 w2 o e1 e2 : ℕ) : Main m K c R s1 w1 r s2 w2 o e1 e2 ⊢ iprop(ownP m c ∗ (ownP m c -∗ Main m K c R s1 w1 r s2 w2 o e1 e2)) := by
  unfold Main
  iintro ⟨#HC, HI, HO, Hb, Ho, Hr⟩
  isplitl [Ho]; · iexact Ho
  iintro Ho
  isplitr; · iexact HC
  isplitl [HI]; · iexact HI
  isplitl [HO]; · iexact HO
  isplitl [Hb]; · iexact Hb
  isplitl [Ho]; · iexact Ho
  iexact Hr

/-! ## The block of partial sums -/

omit [FloatOps F] in
theorem write_pbuf {inb} (f w : Vec F S512x512 .bf16) :
    ((Memref.whole pbuf : Memref sig .tc .vmem S512x512 .bf16).access (Rect.unit (s := S512x512) ![0, 0] S512x512.size inb)).write (Elt F) f w Finset.univ = w :=
  Memref.write_access_unit_zero_univ (Elt F) cc0_scratch0 hz2 _ f w

theorem early_pbuf (b : ℕ) (st : Prop) : Early m K c R b st
    ⊢ iprop((∃ f : Vec F S512x512 .bf16, ((c : Thread nD τ).loc pbuf ↦{fullShare} f))
      ∗ ((((c : Thread nD τ).loc pbuf ↦{fullShare} pbF m c)) -∗ Early m K c R b True)) := by
  unfold Early
  iintro ⟨#HC, HI, HO, Hsig, Hb, ⟨%f, -, Hp⟩, Hr⟩
  isplitl [Hp]; · iexists f; iexact Hp
  iintro Hp
  isplitr; · iexact HC
  isplitl [HI]; · iexact HI
  isplitl [HO]; · iexact HO
  isplitl [Hsig]; · iexact Hsig
  isplitl [Hb]; · iexact Hb
  isplitl [Hp]
  · iexists pbF m c
    isplitr; · ipureintro; exact fun _ => rfl
    iexact Hp
  iexact Hr

/-- The load that precedes the store, whose value is not used, and the store of the block. -/
theorem store_pbuf (b : ℕ) (st : Prop) {k : PUnit → Prog (TpuEff nD τ sig (Elt F) Λ₀ .tc) α} {inb hl inb' hx hm}
    {w : Vec F S512x512 .bf16} (hw : w = pbF m c)
    (h : Early m K c R b True ⊢ runs c (k ⟨⟩) Q) :
    Early m K c R b st ⊢ runs c (.op (.load (Memref.whole pbuf) (Rect.unit (s := S512x512) ![0, 0] S512x512.size inb).toLoadRect hl) fun _ =>
      .op (.store (Memref.whole pbuf) (Rect.unit (s := S512x512) ![0, 0] S512x512.size inb') w Finset.univ hx hm) k) Q := by
  subst hw
  refine (early_pbuf m K c R b st).trans ?_
  iintro ⟨⟨%f, Hp⟩, HS⟩
  iapply (wp_load 𝒱₀ (c : Thread nD τ) none Set.univ (m := Memref.whole pbuf) (Finset.subset_univ _)) $$ Hp
  iintro Hp
  iapply (wp_store 𝒱₀ (c : Thread nD τ) none Set.univ (m := Memref.whole pbuf) (r := Rect.unit (s := S512x512) ![0, 0] S512x512.size inb')
    (Mk := Finset.univ) (Finset.subset_univ _)) $$ Hp
  iintro Hp
  rw [write_pbuf]
  iapply h
  iapply HS; iexact Hp

end Cert.KernelIdeal.Proto

end
-- ==== Proof.Steps2.lean ====
/-
The barrier, the transfers and the waits of the kernel, one lemma for each kind.
-/
module

public import proofs.«01_k».proof.Proof.Steps
public import Idealize.SL.BI.BigOpNat

@[expose] public section

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ UU ℕ

variable (m : (ℓ : Loc nD τ sig) → Buf (Elt F) ℓ) (K : Cell → ℕ) (c : Dev nD) (R : sProp (MT nD τ sig Unit (Elt F) ℕ UU ℕ))
variable {α : Type} {Q : α → sProp (MT nD τ sig Unit (Elt F) ℕ UU ℕ)}

/-! ## The barrier -/

omit [FloatOps F] in
theorem bigSep_weaken {I : Type} (s : Finset I) {Φ Ψ : I → sProp 𝕄} (h : ∀ i, Φ i ⊢ Ψ i) : bigSep s Φ ⊢ bigSep s Ψ :=
  bigSep_mono fun i _ => h i

omit [FloatOps F] in
/-- The fourteen pieces are both halves at each distance. -/
theorem bigSep_pairs (Φ : ℕ → ℕ → sProp 𝕄) :
    bigSep (Finset.range 14) (fun i => Φ (i / 7) (i % 7 + 1)) = bigSep (Finset.Icc 1 7) fun e => iprop(Φ 0 e ∗ Φ 1 e) := by
  rw [bigSep_sep', bigSep_eq_bigSepL_of_eq (S := Finset.Icc 1 7) [1, 2, 3, 4, 5, 6, 7] (by decide) (by decide),
    bigSep_eq_bigSepL_of_eq (S := Finset.Icc 1 7) [1, 2, 3, 4, 5, 6, 7] (by decide) (by decide),
    show Finset.range 14 = Finset.range 7 ∪ Finset.Ico 7 14 by decide, bigSep_union (by decide),
    bigSep_eq_bigSepL_of_eq (S := Finset.range 7) [0, 1, 2, 3, 4, 5, 6] (by decide) (by decide),
    bigSep_eq_bigSepL_of_eq (S := Finset.Ico 7 14) [7, 8, 9, 10, 11, 12, 13] (by decide) (by decide)]
  rfl

/-- What the barrier brings: room for every piece of both exchanges. -/
theorem rooms : (bigSep (Finset.Icc 1 7) fun e => slots (F := F) (nbr c e) e)
    ⊢ iprop((bigSep (Finset.range 14) fun i => room (F := F) (nbr c (i % 7 + 1)) 0 (i / 7) (i % 7 + 1))
      ∗ bigSep (Finset.range 14) fun i => room (F := F) (nbr c (i % 7 + 1)) 2 (i / 7) (i % 7 + 1)) := by
  rw [bigSep_pairs fun h d => room (F := F) (nbr c d) 0 h d, bigSep_pairs fun h d => room (F := F) (nbr c d) 2 h d, ← bigSep_sep']
  refine bigSep_weaken _ fun e => ?_
  unfold slots room
  rw [if_pos rfl, if_pos rfl, if_neg (by decide : ¬ (2 : ℕ) = 0), if_neg (by decide : ¬ (2 : ℕ) = 0)]

theorem outs_zero (k : ℕ) :
    iprop(bigSep (Finset.range 14) (tks (F := F) c k) ∗ bigSep (Finset.range 14) fun i => room (F := F) (nbr c (i % 7 + 1)) k (i / 7) (i % 7 + 1))
      ⊢ outs m c k 0 0 := by
  unfold outs
  refine (Entails.of_eq (bigSep_sep' (Finset.range 14) (tks (F := F) c k) fun i => room (F := F) (nbr c (i % 7 + 1)) k (i / 7) (i % 7 + 1)).symm).trans ?_
  refine bigSep_weaken _ fun i => ?_
  rw [if_neg (Nat.not_lt_zero i), if_neg (Nat.not_lt_zero i)]
  unfold ready
  iintro H; iexact H

omit [FloatOps F] in
/-- A buffer taken apart into one set and a family of others that together cover it. -/
theorem pointsTo_parts {ℓ : Loc nD τ sig} {q : PosShare TreeShare} {f : Buf (Elt F) ℓ} (A : Finset (Idx ℓ)) (s : Finset ℕ) (B : ℕ → Finset (Idx ℓ))
    (hc : ∀ x, x ∈ A ∨ ∃ i ∈ s, x ∈ B i) (hA : ∀ x ∈ A, ∀ i ∈ s, x ∉ B i) (hB : ∀ i ∈ s, ∀ j ∈ s, ∀ x, x ∈ B i → x ∈ B j → i = j) :
    (ℓ ↦{q} f : sProp 𝕄) = iprop((ℓ ↦[A]{q} f) ∗ bigSep s fun i => ℓ ↦[B i]{q} f) := by
  have hU : (Finset.univ : Finset (Idx ℓ)) = A ∪ s.biUnion B := by
    symm
    rw [Finset.eq_univ_iff_forall]
    intro x
    rw [Finset.mem_union, Finset.mem_biUnion]
    exact hc x
  have hd : Disjoint A (s.biUnion B) := by
    rw [Finset.disjoint_biUnion_right]
    exact fun i hi => Finset.disjoint_left.mpr fun x hx => hA x hx i hi
  have hu : (ℓ ↦[A ∪ s.biUnion B]{q} f : sProp 𝕄) ⊣⊢ iprop((ℓ ↦[A]{q} f) ∗ ℓ ↦[s.biUnion B]{q} f) := pointsTo_union hd
  rw [hU, equiv_iff.mp ⟨hu.1, hu.2⟩,
    pointsTo_biUnion s B fun i hi j hj hij => Finset.disjoint_left.mpr fun x hx hx' => hij (hB i hi j hj x hx hx')]

omit [FloatOps F] in
theorem cover (c : Dev nD) (x : S512x512.Idx) : x ∈ ownRows c ∨ ∃ i ∈ Finset.Ico 0 14, x ∈ chunk (nbr c (i % 7 + 1)).val (i / 7) := by
  have hc := dev_lt c
  have h0 : (x 0).val < 512 := (x 0).isLt
  have h1 : (x 1).val < 512 := (x 1).isLt
  rw [mem_ownRows]
  by_cases h : (x 0).val / 64 = c.val
  · exact .inl h
  · refine .inr ⟨7 * ((x 1).val / 256) + ((x 0).val / 64 + 7 - c.val) % 8, Finset.mem_Ico.mpr ⟨Nat.zero_le _, by omega⟩, ?_⟩
    rw [mem_chunk, nbr_val]
    omega

omit [FloatOps F] in
theorem cover_own (c : Dev nD) (x : S512x512.Idx) (hx : x ∈ ownRows c) (i : ℕ) (hi : i ∈ Finset.Ico 0 14) : x ∉ chunk (nbr c (i % 7 + 1)).val (i / 7) := by
  intro hx'
  have h1 := mem_ownRows.mp hx
  have h2 := (mem_chunk.mp hx').1
  rw [nbr_val] at h2
  have hc := dev_lt c
  omega

omit [FloatOps F] in
theorem cover_one (c : Dev nD) (i : ℕ) (hi : i ∈ Finset.Ico 0 14) (j : ℕ) (hj : j ∈ Finset.Ico 0 14) (x : S512x512.Idx)
    (hx : x ∈ chunk (nbr c (i % 7 + 1)).val (i / 7)) (hx' : x ∈ chunk (nbr c (j % 7 + 1)).val (j / 7)) : i = j := by
  have h1 := mem_chunk.mp hx
  have h2 := mem_chunk.mp hx'
  rw [nbr_val] at h1 h2
  have hc := dev_lt c
  have := Finset.mem_Ico.mp hi
  have := Finset.mem_Ico.mp hj
  omega

/-- The block taken apart: the own rows and the fourteen pieces to send. -/
theorem pbuf_eq : (((c : Thread nD τ).loc pbuf ↦{fullShare} pbF m c) : sProp 𝕄) = iprop(ownP m c ∗ unsent m c 0) := by
  have hU : unsent m c 0 = bigSep (Finset.Ico 0 14) fun i => ((c : Thread nD τ).loc pbuf ↦[chunk (nbr c (i % 7 + 1)).val (i / 7)]{fullShare} pbF m c : sProp 𝕄) :=
    bigSep_congr fun i _ => by unfold xPay chunkP; exact if_pos rfl
  rw [hU]
  exact pointsTo_parts (ℓ := (c : Thread nD τ).loc pbuf) (ownRows c) (Finset.Ico 0 14) (fun i => chunk (nbr c (i % 7 + 1)).val (i / 7)) (cover c) (cover_own c) (cover_one c)

theorem step_barrier {k : PUnit → Prog (TpuEff nD τ sig (Elt F) Λ₀ .tc) α}
    (h : Main m K c R 0 0 0 0 0 0 0 0 ⊢ runs c (k ⟨⟩) Q) :
    Early m K c R 0 True ⊢ runs c (.op (.semWait barS 7) k) Q := by
  unfold Early
  iintro ⟨#HC, HI, ⟨%W, HO⟩, -, ⟨HcB, HatB⟩, ⟨%f, %hf, Hp⟩, Ht1, Ht2, H3, H4, H5, H6, HR⟩
  have hf := hf trivial
  subst hf
  iapply (Rounds.wp_wait_rest_token 𝒱₀ ER (exRd m) (c : Thread nD τ) none (κ := K (c, none))
      (wpE_semWait_eq 𝒱₀ (c : Thread nD τ) none Set.univ) (Set.mem_univ _) () (O := Owe c 0 0 0) (W := W) (R := 0) (m := 0) (T := ∅)
      (by rw [expect_bar])) $$ [HcB HO HatB]
  · isplitr; · iapply (ctx_inv_bar m K c); iexact HC
    isplitl [HcB]; · iexact HcB
    isplitl [HO]; · iexact HO
    isplitr
    · iapply (mayWait_of (F := F) c (.reg barS) 0 0 0 1 (le_of_eq (lv_bar c ())) (by decide) (fun _ => by decide) (fun h => absurd h (Nat.lt_irrefl 0)))
      iapply (ctx_lev m K); iexact HC
    iexact HatB
  iintro ⟨HO, HatB, -, Hpay⟩
  ihave Hp2 := (Entails.of_eq (rest_bar m c)) $$ Hpay
  ihave Hrooms := (rooms (F := F) c) $$ Hp2
  icases Hrooms with ⟨Hr1, Hr2⟩
  imod (Rounds.cell_close ER (exRd m) (Set.mem_univ (K (c, none))) (fun h => h) (R := 0 + 1) (duties_later m (barCell c))) $$ [HatB] with HzB
  · isplitr; · iapply (ctx_inv_bar m K c); iexact HC
    iexact HatB
  ihave Ho1 := (outs_zero m c 0) $$ [Ht1 Hr1]
  · isplitl [Ht1] <;> iassumption
  ihave Ho2 := (outs_zero m c 2) $$ [Ht2 Hr2]
  · isplitl [Ht2] <;> iassumption
  ihave Hp' := (Entails.of_eq (pbuf_eq m c)) $$ Hp
  icases Hp' with ⟨Hown, Hun⟩
  iapply h
  unfold Main
  isplitr; · iexact HC
  isplitl [HI]; · iexact HI
  isplitl [HO]; · iexists _; iexact HO
  isplitl [HzB]; · iexact HzB
  isplitl [Hown]; · iexact Hown
  isplitl [Hun]; · iexact Hun
  isplitl [Ho1]; · iexact Ho1
  isplitl [H3]; · iexact H3
  isplitl [H5]; · iexact H5
  isplitr; · unfold shares; rw [Nat.mul_zero, Finset.Ico_self, bigSep_empty]; iempintro
  isplitl [Ho2]; · iexact Ho2
  isplitl [H4]; · iexact H4
  isplitl [H6]; · iexact H6
  iexact HR

/-! ## The transfers -/

/-- A transfer of exchange `k` (0 or 2): piece `s` leaves for the device `s % 7 + 1` places on, with the tokens, the room
    there and what it reads; the credit to wait with comes back, and one transfer less is owed. -/
theorem step_transfer {k' s : ℕ} (hk : k' + 1 < 4) (hs : s < 14) {n : Dev nD} (hn : n = nbr c (s % 7 + 1))
    {src dst : Memref sig .tc .vmem S64x256 .bf16} {qs qr : DmaSem sig}
    (hqs : qs = dq k' (s / 7) (s % 7 + 1)) (hqr : qr = dq (k' + 1) (s / 7) (s % 7 + 1))
    {hsc : dst.view.ref.isScScratch = false} {hsrc : src.view.WordExact} {hdst : dst.view.WordExact}
    {hsem : DmaTarget.Typed .vmem (.dma qr) (.remote (Dev.tc n : Thread nD τ) dst (.dma qs) hsc)}
    {k : PUnit → Prog (TpuEff nD τ sig (Elt F) Λ₀ .tc) α} {q : PosShare TreeShare}
    (fs : Buf (Elt F) (src.view.loc (c : Thread nD τ))) (fd : Buf (Elt F) (dst.view.loc (nbr c (s % 7 + 1) : Thread nD τ)))
    (hN : dst.view.amount (.dma (dq (k' + 1) (s / 7) (s % 7 + 1)) : SemLoc sig) = NN)
    (hp1 : (src.view.loc (c : Thread nD τ) ↦[src.view.set]{q} fs) ⊢ xPay m c k' (s / 7) (s % 7 + 1))
    (hp2 : (dst.view.loc (nbr c (s % 7 + 1) : Thread nD τ) ↦[dst.view.set]{fullShare} dst.view.write (Elt F) fd (src.view.read (Elt F) fs) Finset.univ)
      ⊢ xPay m (nbr c (s % 7 + 1)) (k' + 1) (s / 7) (s % 7 + 1))
    {O₀ O : CellTallies nD τ sig Unit} (hO : O₀ = O + tallyAt (xCell (nbr c (s % 7 + 1)) (k' + 1) (s / 7) (s % 7 + 1)) () NN) (W : Waits sig Unit) :
    iprop(Ctx m K ∗ tks (F := F) c k' s ∗ (src.view.loc (c : Thread nD τ) ↦[src.view.set]{q} fs)
        ∗ (dst.view.loc (nbr c (s % 7 + 1) : Thread nD τ) ↦[dst.view.set]{fullShare} fd) ∗ owes (c : Thread nD τ) O₀ W)
      ⊢ iprop(((pending (F := F) c k' s ∗ owes (c : Thread nD τ) O W) -∗ runs c (k ⟨⟩) Q)
        -∗ runs c (.op (.enqueueDma src (.remote (Dev.tc n : Thread nD τ) dst (.dma qs) hsc) (.dma qr) hsrc hdst hsem) k) Q) := by
  subst hn hqs hqr
  have hh : s / 7 < 2 := by omega
  have hd : 1 ≤ s % 7 + 1 := by omega
  have hd' : s % 7 + 1 < 8 := by omega
  unfold tks pending
  iintro ⟨#HC, ⟨Ht1, Ht2, Hat⟩, Hsrc, Hdst, HO⟩ Hk
  iapply (Rounds.wp_send_pointsTo 𝒱₀ ER (exRd m) (c : Thread nD τ) none (κ₁ := K (c, some (xi k' (s / 7) (s % 7 + 1))))
      (κ₂ := K (nbr c (s % 7 + 1), some (xi (k' + 1) (s / 7) (s % 7 + 1)))) (r₁ := 0) (r₂ := 0) (d₁ := 0) (d₂ := 0) (fd := fd)
      (by rw [duties_x m c (by omega) hh hd hd']; exact Finset.mem_singleton_self _)
      (by rw [duties_x m (nbr c (s % 7 + 1)) hk hh hd hd']; exact Finset.mem_singleton_self _)
      () () NN hN (amount_x m c (by omega) hh hd hd' 0) (amount_x m (nbr c (s % 7 + 1)) hk hh hd hd' 0) O hO (W := W)
      (by rw [payload_x m c (by omega) hh hd hd']; exact hp1)
      (by rw [payload_x m (nbr c (s % 7 + 1)) hk hh hd hd']; exact hp2)) $$ [Ht1 Ht2 Hsrc Hdst HO]
  · isplitr; · iapply (ctx_inv_x m K c (by omega) hh hd'); iexact HC
    isplitr; · iapply (ctx_inv_x m K (nbr c (s % 7 + 1)) hk hh hd'); iexact HC
    isplitl [Hsrc]; · iexact Hsrc
    isplitl [Hdst]; · iexact Hdst
    isplitl [HO]; · iexact HO
    isplitl [Ht1]; · iexact Ht1
    isplitr; · iapply (ctx_reached_x m K c (by omega) hh hd'); iexact HC
    isplitl [Ht2]; · iexact Ht2
    iapply (ctx_reached_x m K (nbr c (s % 7 + 1)) hk hh hd'); iexact HC
  iintro ⟨Hcr, HO⟩
  iapply Hk
  isplitl [Hcr Hat]
  · isplitl [Hcr]; · iexact Hcr
    iexact Hat
  iexact HO

variable (s1 w1 r s2 w2 o e1 e2 : ℕ)

/-- A transfer of the first exchange. -/
theorem step_send1 (hs : s1 < 14) {n : Dev nD} (hn : n = nbr c (s1 % 7 + 1)) {off : Fin 2 → ℕ} {inb} {off' : Fin 3 → ℕ} {inb'}
    (hoff : off = ![64 * (nbr c (s1 % 7 + 1)).val, 256 * (s1 / 7)]) (hoff' : off' = ![s1 % 7 + 1, 0, 256 * (s1 / 7)])
    {qs qr : DmaSem sig} (hqs : qs = dq 0 (s1 / 7) (s1 % 7 + 1)) (hqr : qr = dq 1 (s1 / 7) (s1 % 7 + 1))
    {hsc : (s1M off' inb').view.ref.isScScratch = false} {hsrc : (srcM off inb).view.WordExact} {hdst : (s1M off' inb').view.WordExact}
    {hsem : DmaTarget.Typed .vmem (.dma qr) (.remote (Dev.tc n : Thread nD τ) (s1M off' inb') (.dma qs) hsc)}
    {k : PUnit → Prog (TpuEff nD τ sig (Elt F) Λ₀ .tc) α}
    (h : Main m K c R (s1 + 1) w1 r s2 w2 o 0 e2 ⊢ runs c (k ⟨⟩) Q) :
    Main m K c R s1 w1 r s2 w2 o 0 e2
      ⊢ runs c (.op (.enqueueDma (srcM off inb) (.remote (Dev.tc n : Thread nD τ) (s1M off' inb') (.dma qs) hsc) (.dma qr) hsrc hdst hsem) k) Q := by
  have hd' : s1 % 7 + 1 < 8 := by omega
  unfold Main
  unfold unsent
  rw [bigSep_Ico_succ_bot hs]
  iintro ⟨#HC, HI, ⟨%W, HO⟩, HzB, Hown, ⟨Hsrc, Hun⟩, Ho1, H3, H5, Hsh, Ho2, H4, H6, HR⟩
  ihave Hx := (outs_send m c 0 hs) $$ Ho1
  icases Hx with ⟨Hrd, Hback⟩
  unfold ready room
  rw [if_pos rfl]
  icases Hrd with ⟨Htk, ⟨%fd, Hdst⟩⟩
  ihave Hsrc := (show xPay m c 0 (s1 / 7) (s1 % 7 + 1)
      ⊢ ((srcM off inb).view.loc (c : Thread nD τ) ↦[(srcM off inb).view.set]{fullShare} pbF m c) from Entails.of_eq (by
        rw [srcM_set hoff]; unfold xPay chunkP; exact if_pos rfl)) $$ Hsrc
  ihave Hdst := (show slot1 (nbr c (s1 % 7 + 1)) (s1 % 7 + 1) (s1 / 7) fd
      ⊢ ((s1M off' inb').view.loc (nbr c (s1 % 7 + 1) : Thread nD τ) ↦[(s1M off' inb').view.set]{fullShare} fd) from Entails.of_eq (by
        rw [s1M_set hoff']; unfold slot1; rfl)) $$ Hdst
  iapply (step_transfer m K c (by decide : 0 + 1 < 4) hs hn hqs hqr (src := srcM off inb) (dst := s1M off' inb') (q := fullShare) (pbF m c) fd rfl
      (Entails.of_eq (by rw [srcM_set hoff]; unfold xPay chunkP; exact (if_pos rfl).symm))
      (Entails.of_eq (by
        rw [pointsTo_congr (write_agree (s1M off' inb').view fd (stgF m (nbr c (s1 % 7 + 1))) _ (land1 m c hd' hoff hoff')), s1M_set hoff']
        rfl))
      (owe_one c s1 s2 hs) W) $$ [Htk Hsrc Hdst HO]
  · isplitr; · iexact HC
    isplitl [Htk]; · iexact Htk
    isplitl [Hsrc]; · iexact Hsrc
    isplitl [Hdst]; · iexact Hdst
    iexact HO
  iintro ⟨Hpd, HO⟩
  ihave Ho1 := Hback $$ Hpd
  iapply h
  unfold Main unsent
  isplitr; · iexact HC
  isplitl [HI]; · iexact HI
  isplitl [HO]; · iexists _; iexact HO
  isplitl [HzB]; · iexact HzB
  isplitl [Hown]; · iexact Hown
  isplitl [Hun]; · iexact Hun
  isplitl [Ho1]; · iexact Ho1
  isplitl [H3]; · iexact H3
  isplitl [H5]; · iexact H5
  isplitl [Hsh]; · iexact Hsh
  isplitl [Ho2]; · iexact Ho2
  isplitl [H4]; · iexact H4
  isplitl [H6]; · iexact H6
  iexact HR

/-- A transfer of the second. -/
theorem step_send2 (hs : s2 < 14) (hr : s2 < 7 * r) {n : Dev nD} (hn : n = nbr c (s2 % 7 + 1)) {off : Fin 2 → ℕ} {inb} {off' : Fin 3 → ℕ} {inb'}
    (hoff : off = ![0, 256 * (s2 / 7)]) (hoff' : off' = ![s2 % 7 + 1, 0, 256 * (s2 / 7)])
    {qs qr : DmaSem sig} (hqs : qs = dq 2 (s2 / 7) (s2 % 7 + 1)) (hqr : qr = dq 3 (s2 / 7) (s2 % 7 + 1))
    {hsc : (s2M off' inb').view.ref.isScScratch = false} {hsrc : (rbM off inb).view.WordExact} {hdst : (s2M off' inb').view.WordExact}
    {hsem : DmaTarget.Typed .vmem (.dma qr) (.remote (Dev.tc n : Thread nD τ) (s2M off' inb') (.dma qs) hsc)}
    {k : PUnit → Prog (TpuEff nD τ sig (Elt F) Λ₀ .tc) α}
    (h : Main m K c R s1 w1 r (s2 + 1) w2 o e1 0 ⊢ runs c (k ⟨⟩) Q) (h1 : s1 = 14) :
    Main m K c R s1 w1 r s2 w2 o e1 0
      ⊢ runs c (.op (.enqueueDma (rbM off inb) (.remote (Dev.tc n : Thread nD τ) (s2M off' inb') (.dma qs) hsc) (.dma qr) hsrc hdst hsem) k) Q := by
  have hd' : s2 % 7 + 1 < 8 := by omega
  unfold Main
  unfold shares
  rw [bigSep_Ico_succ_bot hr]
  iintro ⟨#HC, HI, ⟨%W, HO⟩, HzB, Hown, Hun, Ho1, H3, H5, ⟨Hsrc, Hsh⟩, Ho2, H4, H6, HR⟩
  ihave Hx := (outs_send m c 2 hs) $$ Ho2
  icases Hx with ⟨Hrd, Hback⟩
  unfold ready room
  rw [if_neg (by decide : ¬ (2 : ℕ) = 0)]
  icases Hrd with ⟨Htk, ⟨%fd, Hdst⟩⟩
  ihave Hsrc := (show xPay m c 2 (s2 / 7) (s2 % 7 + 1)
      ⊢ ((rbM off inb).view.loc (c : Thread nD τ) ↦[(rbM off inb).view.set]{shareTokN fullShare (s2 % 7 + 1 - 1)} rbF m c) from Entails.of_eq (by
        rw [rbM_set hoff]; rfl)) $$ Hsrc
  ihave Hdst := (show slot2 (nbr c (s2 % 7 + 1)) (s2 % 7 + 1) (s2 / 7) fd
      ⊢ ((s2M off' inb').view.loc (nbr c (s2 % 7 + 1) : Thread nD τ) ↦[(s2M off' inb').view.set]{fullShare} fd) from Entails.of_eq (by
        rw [s2M_set hoff']; unfold slot2; rfl)) $$ Hdst
  iapply (step_transfer m K c (by decide : 2 + 1 < 4) hs hn hqs hqr (src := rbM off inb) (dst := s2M off' inb') (q := shareTokN fullShare (s2 % 7 + 1 - 1)) (rbF m c) fd rfl
      (Entails.of_eq (by rw [rbM_set hoff]; rfl))
      (Entails.of_eq (by
        rw [pointsTo_congr (write_agree (s2M off' inb').view fd (st2F m (nbr c (s2 % 7 + 1))) _ (land2 m c hd' hoff hoff')), s2M_set hoff']
        rfl))
      (owe_two c s1 s2 hs) W) $$ [Htk Hsrc Hdst HO]
  · isplitr; · iexact HC
    isplitl [Htk]; · iexact Htk
    isplitl [Hsrc]; · iexact Hsrc
    isplitl [Hdst]; · iexact Hdst
    iexact HO
  iintro ⟨Hpd, HO⟩
  ihave Ho2 := Hback $$ Hpd
  iapply h
  unfold Main shares
  isplitr; · iexact HC
  isplitl [HI]; · iexact HI
  isplitl [HO]; · iexists _; iexact HO
  isplitl [HzB]; · iexact HzB
  isplitl [Hown]; · iexact Hown
  isplitl [Hun]; · iexact Hun
  isplitl [Ho1]; · iexact Ho1
  isplitl [H3]; · iexact H3
  isplitl [H5]; · iexact H5
  isplitl [Hsh]; · iexact Hsh
  isplitl [Ho2]; · iexact Ho2
  isplitl [H4]; · iexact H4
  isplitl [H6]; · iexact H6
  iexact HR

end Cert.KernelIdeal.Proto

end
-- ==== Proof.Steps3.lean ====
/-
The waits for the transfers, the loads from what they brought, and the stores to the rounded rows and to the result.
-/
module

public import proofs.«01_k».proof.Proof.Steps2

@[expose] public section

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ UU ℕ

variable (m : (ℓ : Loc nD τ sig) → Buf (Elt F) ℓ) (K : Cell → ℕ) (c : Dev nD) (R : sProp (MT nD τ sig Unit (Elt F) ℕ UU ℕ))
variable {α : Type} {Q : α → sProp (MT nD τ sig Unit (Elt F) ℕ UU ℕ)}
variable (s1 w1 r s2 w2 o e1 e2 : ℕ)

/-! ## Waits -/

/-- A wait for one transfer: its semaphore is at zero for good and what came with the transfer is held. -/
theorem step_wait {k' i : ℕ} (hk : k' < 4) (hi : i < 14) {sem : DmaSem sig} (hsem : sem = dq k' (i / 7) (i % 7 + 1))
    {sp sp' : Space} {s s' : Shape} {e e' : EltTy} {src : Memref sig .tc sp' s' e'} {dst : Memref sig .tc sp s e}
    {hsrc : src.view.WordExact} {hdst : dst.view.WordExact} (hN : dst.view.dmaCredit = NN)
    {k : PUnit → Prog (TpuEff nD τ sig (Elt F) Λ₀ .tc) α} (O : CellTallies nD τ sig Unit) (W : Waits sig Unit) :
    iprop(Ctx m K ∗ pending (F := F) c k' i ∗ owes (c : Thread nD τ) O W ∗ MayWait (c : Thread nD τ) (.dma (dq k' (i / 7) (i % 7 + 1))) () O)
      ⊢ iprop(((done m c k' i ∗ ∃ W', owes (c : Thread nD τ) O W') -∗ runs c (k ⟨⟩) Q)
        -∗ runs c (.op (.waitDma2 sem src dst hsrc hdst) k) Q) := by
  subst hsem
  have hh : i / 7 < 2 := by omega
  have hd : 1 ≤ i % 7 + 1 := by omega
  have hd' : i % 7 + 1 < 8 := by omega
  unfold pending done
  rw [← hN]
  iintro ⟨#HC, ⟨Hcr, Hat⟩, HO, Hmw⟩ Hk
  iapply (Rounds.wp_wait_rest_token 𝒱₀ ER (exRd m) (c : Thread nD τ) none (κ := K (c, some (xi k' (i / 7) (i % 7 + 1))))
      (wpE_waitDma2_eq 𝒱₀ (c : Thread nD τ) none Set.univ) (Set.mem_univ _) () (O := O) (W := W) (R := 0) (m := 0) (T := ∅)
      (by rw [expect_x m c hk hh hd hd', Nat.zero_add, hN])) $$ [Hcr HO Hmw Hat]
  · isplitr; · iapply (ctx_inv_x m K c hk hh hd'); iexact HC
    isplitl [Hcr]; · iexact Hcr
    isplitl [HO]; · iexact HO
    isplitl [Hmw]; · iexact Hmw
    iexact Hat
  iintro ⟨HO, Hat, -, Hpay⟩
  ihave Hpay := (Entails.of_eq (rest_x m c hk hh hd hd')) $$ Hpay
  imod (Rounds.cell_close ER (exRd m) (Set.mem_univ (K (c, some (xi k' (i / 7) (i % 7 + 1))))) (fun h => h) (R := 0 + 1)
    (duties_later m (xCell c k' (i / 7) (i % 7 + 1)))) $$ [Hat] with Hz
  · isplitr; · iapply (ctx_inv_x m K c hk hh hd'); iexact HC
    iexact Hat
  iapply Hk
  isplitl [Hz Hpay]
  · isplitl [Hz]; · iexact Hz
    iexact Hpay
  iexists _; iexact HO

/-- A wait for a piece of the first exchange. -/
theorem step_recv1 (hw : w1 < 14) {sem : DmaSem sig} (hsem : sem = dq 1 (w1 / 7) (w1 % 7 + 1))
    {sp sp' : Space} {s s' : Shape} {e e' : EltTy} {src : Memref sig .tc sp' s' e'} {dst : Memref sig .tc sp s e}
    {hsrc : src.view.WordExact} {hdst : dst.view.WordExact} (hN : dst.view.dmaCredit = NN)
    {k : PUnit → Prog (TpuEff nD τ sig (Elt F) Λ₀ .tc) α}
    (h : Main m K c R 14 (w1 + 1) r s2 w2 o e1 e2 ⊢ runs c (k ⟨⟩) Q) :
    Main m K c R 14 w1 r s2 w2 o e1 e2 ⊢ runs c (.op (.waitDma2 sem src dst hsrc hdst) k) Q := by
  unfold Main
  iintro ⟨#HC, HI, ⟨%W, HO⟩, HzB, Hown, Hun, Ho1, H3, H5, Hsh, Ho2, H4, H6, HR⟩
  ihave Hx := (ins_wait m c 1 hw) $$ H3
  icases Hx with ⟨Hpd, Hback⟩
  iapply (step_wait m K c (by decide : 1 < 4) hw hsem hN (Owe c 0 14 s2) W) $$ [Hpd HO]
  · isplitr; · iexact HC
    isplitl [Hpd]; · iexact Hpd
    isplitl [HO]; · iexact HO
    iapply (mayWait_of (F := F) c (.dma (dq 1 (w1 / 7) (w1 % 7 + 1))) 0 14 s2 2
      (le_of_eq (lv_x1 c (by omega : w1 / 7 < 2) (by omega : w1 % 7 + 1 < 8) ())) (by decide) (fun h => absurd h (Nat.lt_irrefl 14)) (fun h => absurd h (Nat.lt_irrefl 0)))
    iapply (ctx_lev m K); iexact HC
  iintro ⟨Hd, HO⟩
  ihave H3 := Hback $$ Hd
  iapply h
  unfold Main
  isplitr; · iexact HC
  isplitl [HI]; · iexact HI
  isplitl [HO]; · iexact HO
  isplitl [HzB]; · iexact HzB
  isplitl [Hown]; · iexact Hown
  isplitl [Hun]; · iexact Hun
  isplitl [Ho1]; · iexact Ho1
  isplitl [H3]; · iexact H3
  isplitl [H5]; · iexact H5
  isplitl [Hsh]; · iexact Hsh
  isplitl [Ho2]; · iexact Ho2
  isplitl [H4]; · iexact H4
  isplitl [H6]; · iexact H6
  iexact HR

/-- A wait for a piece of the second. -/
theorem step_recv2 (hw : w2 < 14) {sem : DmaSem sig} (hsem : sem = dq 3 (w2 / 7) (w2 % 7 + 1))
    {sp sp' : Space} {s s' : Shape} {e e' : EltTy} {src : Memref sig .tc sp' s' e'} {dst : Memref sig .tc sp s e}
    {hsrc : src.view.WordExact} {hdst : dst.view.WordExact} (hN : dst.view.dmaCredit = NN)
    {k : PUnit → Prog (TpuEff nD τ sig (Elt F) Λ₀ .tc) α}
    (h : Main m K c R 14 w1 r 14 (w2 + 1) o e1 e2 ⊢ runs c (k ⟨⟩) Q) :
    Main m K c R 14 w1 r 14 w2 o e1 e2 ⊢ runs c (.op (.waitDma2 sem src dst hsrc hdst) k) Q := by
  unfold Main
  rw [owe_done]
  iintro ⟨#HC, HI, ⟨%W, HO⟩, HzB, Hown, Hun, Ho1, H3, H5, Hsh, Ho2, H4, H6, HR⟩
  ihave Hx := (ins_wait m c 3 hw) $$ H4
  icases Hx with ⟨Hpd, Hback⟩
  iapply (step_wait m K c (by decide : 3 < 4) hw hsem hN 0 W) $$ [Hpd HO]
  · isplitr; · iexact HC
    isplitl [Hpd]; · iexact Hpd
    isplitl [HO]; · iexact HO
    rw [MayWait_zero]; iempintro
  iintro ⟨Hd, HO⟩
  ihave H4 := Hback $$ Hd
  iapply h
  unfold Main
  rw [owe_done]
  isplitr; · iexact HC
  isplitl [HI]; · iexact HI
  isplitl [HO]; · iexact HO
  isplitl [HzB]; · iexact HzB
  isplitl [Hown]; · iexact Hown
  isplitl [Hun]; · iexact Hun
  isplitl [Ho1]; · iexact Ho1
  isplitl [H3]; · iexact H3
  isplitl [H5]; · iexact H5
  isplitl [Hsh]; · iexact Hsh
  isplitl [Ho2]; · iexact Ho2
  isplitl [H4]; · iexact H4
  isplitl [H6]; · iexact H6
  iexact HR

/-- A wait for a piece sent in the first exchange to have left. -/
theorem step_sent1 (he : e1 < 14) {sem : DmaSem sig} (hsem : sem = dq 0 (e1 / 7) (e1 % 7 + 1))
    {sp sp' : Space} {s s' : Shape} {e e' : EltTy} {src : Memref sig .tc sp' s' e'} {dst : Memref sig .tc sp s e}
    {hsrc : src.view.WordExact} {hdst : dst.view.WordExact} (hN : dst.view.dmaCredit = NN)
    {k : PUnit → Prog (TpuEff nD τ sig (Elt F) Λ₀ .tc) α}
    (h : Main m K c R 14 w1 r 14 w2 o (e1 + 1) e2 ⊢ runs c (k ⟨⟩) Q) :
    Main m K c R 14 w1 r 14 w2 o e1 e2 ⊢ runs c (.op (.waitDma2 sem src dst hsrc hdst) k) Q := by
  unfold Main
  rw [owe_done]
  iintro ⟨#HC, HI, ⟨%W, HO⟩, HzB, Hown, Hun, Ho1, H3, H5, Hsh, Ho2, H4, H6, HR⟩
  ihave Hx := (outs_back m c 0 he) $$ Ho1
  icases Hx with ⟨Hpd, Hback⟩
  iapply (step_wait m K c (by decide : 0 < 4) he hsem hN 0 W) $$ [Hpd HO]
  · isplitr; · iexact HC
    isplitl [Hpd]; · iexact Hpd
    isplitl [HO]; · iexact HO
    rw [MayWait_zero]; iempintro
  iintro ⟨Hd, HO⟩
  ihave Ho1 := Hback $$ Hd
  iapply h
  unfold Main
  rw [owe_done]
  isplitr; · iexact HC
  isplitl [HI]; · iexact HI
  isplitl [HO]; · iexact HO
  isplitl [HzB]; · iexact HzB
  isplitl [Hown]; · iexact Hown
  isplitl [Hun]; · iexact Hun
  isplitl [Ho1]; · iexact Ho1
  isplitl [H3]; · iexact H3
  isplitl [H5]; · iexact H5
  isplitl [Hsh]; · iexact Hsh
  isplitl [Ho2]; · iexact Ho2
  isplitl [H4]; · iexact H4
  isplitl [H6]; · iexact H6
  iexact HR

/-- And in the second. -/
theorem step_sent2 (he : e2 < 14) {sem : DmaSem sig} (hsem : sem = dq 2 (e2 / 7) (e2 % 7 + 1))
    {sp sp' : Space} {s s' : Shape} {e e' : EltTy} {src : Memref sig .tc sp' s' e'} {dst : Memref sig .tc sp s e}
    {hsrc : src.view.WordExact} {hdst : dst.view.WordExact} (hN : dst.view.dmaCredit = NN)
    {k : PUnit → Prog (TpuEff nD τ sig (Elt F) Λ₀ .tc) α}
    (h : Main m K c R 14 w1 r 14 w2 o e1 (e2 + 1) ⊢ runs c (k ⟨⟩) Q) :
    Main m K c R 14 w1 r 14 w2 o e1 e2 ⊢ runs c (.op (.waitDma2 sem src dst hsrc hdst) k) Q := by
  unfold Main
  rw [owe_done]
  iintro ⟨#HC, HI, ⟨%W, HO⟩, HzB, Hown, Hun, Ho1, H3, H5, Hsh, Ho2, H4, H6, HR⟩
  ihave Hx := (outs_back m c 2 he) $$ Ho2
  icases Hx with ⟨Hpd, Hback⟩
  iapply (step_wait m K c (by decide : 2 < 4) he hsem hN 0 W) $$ [Hpd HO]
  · isplitr; · iexact HC
    isplitl [Hpd]; · iexact Hpd
    isplitl [HO]; · iexact HO
    rw [MayWait_zero]; iempintro
  iintro ⟨Hd, HO⟩
  ihave Ho2 := Hback $$ Hd
  iapply h
  unfold Main
  rw [owe_done]
  isplitr; · iexact HC
  isplitl [HI]; · iexact HI
  isplitl [HO]; · iexact HO
  isplitl [HzB]; · iexact HzB
  isplitl [Hown]; · iexact Hown
  isplitl [Hun]; · iexact Hun
  isplitl [Ho1]; · iexact Ho1
  isplitl [H3]; · iexact H3
  isplitl [H5]; · iexact H5
  isplitl [Hsh]; · iexact Hsh
  isplitl [Ho2]; · iexact Ho2
  isplitl [H4]; · iexact H4
  isplitl [H6]; · iexact H6
  iexact HR

/-! ## Loads from the landing buffers -/

theorem look1 {i : ℕ} (hi : i < w1) (hw : w1 ≤ 14) : Main m K c R s1 w1 r s2 w2 o e1 e2
    ⊢ iprop(((c : Thread nD τ).loc stgB ↦[slot (i % 7 + 1) (i / 7)]{fullShare} stgF m c)
      ∗ (((c : Thread nD τ).loc stgB ↦[slot (i % 7 + 1) (i / 7)]{fullShare} stgF m c) -∗ Main m K c R s1 w1 r s2 w2 o e1 e2)) := by
  unfold Main
  iintro ⟨#HC, HI, HO, HzB, Hown, Hun, Ho1, H3, Hr⟩
  ihave Hx := (ins_look m c 1 hi hw) $$ H3
  icases Hx with ⟨Hd, Hback⟩
  ihave Hd := (show done m c 1 i ⊢ iprop(semVal (xCell c 1 (i / 7) (i % 7 + 1)) 0
    ∗ ((c : Thread nD τ).loc stgB ↦[slot (i % 7 + 1) (i / 7)]{fullShare} stgF m c)) from .refl) $$ Hd
  icases Hd with ⟨Hz, Hp⟩
  isplitl [Hp]; · iexact Hp
  iintro Hp
  isplitr; · iexact HC
  isplitl [HI]; · iexact HI
  isplitl [HO]; · iexact HO
  isplitl [HzB]; · iexact HzB
  isplitl [Hown]; · iexact Hown
  isplitl [Hun]; · iexact Hun
  isplitl [Ho1]; · iexact Ho1
  isplitl [Hback Hz Hp]
  · iapply Hback
    iapply (show iprop(semVal (xCell c 1 (i / 7) (i % 7 + 1)) 0
      ∗ ((c : Thread nD τ).loc stgB ↦[slot (i % 7 + 1) (i / 7)]{fullShare} stgF m c)) ⊢ done m c 1 i from .refl)
    isplitl [Hz]; · iexact Hz
    iexact Hp
  iexact Hr

theorem look2 {i : ℕ} (hi : i < w2) (hw : w2 ≤ 14) : Main m K c R s1 w1 r s2 w2 o e1 e2
    ⊢ iprop(((c : Thread nD τ).loc st2B ↦[slot (i % 7 + 1) (i / 7)]{fullShare} st2F m c)
      ∗ (((c : Thread nD τ).loc st2B ↦[slot (i % 7 + 1) (i / 7)]{fullShare} st2F m c) -∗ Main m K c R s1 w1 r s2 w2 o e1 e2)) := by
  unfold Main
  iintro ⟨#HC, HI, HO, HzB, Hown, Hun, Ho1, H3, H5, Hsh, Ho2, H4, Hr⟩
  ihave Hx := (ins_look m c 3 hi hw) $$ H4
  icases Hx with ⟨Hd, Hback⟩
  ihave Hd := (show done m c 3 i ⊢ iprop(semVal (xCell c 3 (i / 7) (i % 7 + 1)) 0
    ∗ ((c : Thread nD τ).loc st2B ↦[slot (i % 7 + 1) (i / 7)]{fullShare} st2F m c)) from .refl) $$ Hd
  icases Hd with ⟨Hz, Hp⟩
  isplitl [Hp]; · iexact Hp
  iintro Hp
  isplitr; · iexact HC
  isplitl [HI]; · iexact HI
  isplitl [HO]; · iexact HO
  isplitl [HzB]; · iexact HzB
  isplitl [Hown]; · iexact Hown
  isplitl [Hun]; · iexact Hun
  isplitl [Ho1]; · iexact Ho1
  isplitl [H3]; · iexact H3
  isplitl [H5]; · iexact H5
  isplitl [Hsh]; · iexact Hsh
  isplitl [Ho2]; · iexact Ho2
  isplitl [Hback Hz Hp]
  · iapply Hback
    iapply (show iprop(semVal (xCell c 3 (i / 7) (i % 7 + 1)) 0
      ∗ ((c : Thread nD τ).loc st2B ↦[slot (i % 7 + 1) (i / 7)]{fullShare} st2F m c)) ⊢ done m c 3 i from .refl)
    isplitl [Hz]; · iexact Hz
    iexact Hp
  iexact Hr

omit [FloatOps F] in
theorem slot_sub1 {off : Fin 3 → ℕ} {inb} {d h : ℕ} (hoff : off = ![d, 0, 256 * h]) :
    (Memref.whole stgB).view.setOn (slotR off inb).toLoadRect.set ⊆ slot d h := by
  intro i hi
  obtain ⟨x, hx, rfl⟩ := Finset.mem_map.mp hi
  rw [← slotR_set (inb := inb) hoff]
  exact hx
omit [FloatOps F] in
theorem slot_sub2 {off : Fin 3 → ℕ} {inb} {d h : ℕ} (hoff : off = ![d, 0, 256 * h]) :
    (Memref.whole st2B).view.setOn (slotR off inb).toLoadRect.set ⊆ slot d h := by
  intro i hi
  obtain ⟨x, hx, rfl⟩ := Finset.mem_map.mp hi
  rw [← slotR_set (inb := inb) hoff]
  exact hx

theorem load_slot1 (i : ℕ) (hi : i < w1) (hw : w1 ≤ 14) {off : Fin 3 → ℕ} {inb} (hoff : off = ![i % 7 + 1, 0, 256 * (i / 7)]) {hl}
    {k : Vec F S1x64x256 .bf16 → Prog (TpuEff nD τ sig (Elt F) Λ₀ .tc) α}
    (h : Main m K c R s1 w1 r s2 w2 o e1 e2 ⊢ runs c (k (slF m c (i / 7) (i % 7 + 1))) Q) :
    Main m K c R s1 w1 r s2 w2 o e1 e2 ⊢ runs c (.op (.load (Memref.whole stgB) (slotR off inb).toLoadRect hl) k) Q :=
  step_load c (slot_sub1 hoff) (read_slot1 m c hoff) (look1 m K c R s1 w1 r s2 w2 o e1 e2 hi hw) h

theorem load_slot2 (i : ℕ) (hi : i < w2) (hw : w2 ≤ 14) {off : Fin 3 → ℕ} {inb} (hoff : off = ![i % 7 + 1, 0, 256 * (i / 7)]) {hl}
    {k : Vec F S1x64x256 .bf16 → Prog (TpuEff nD τ sig (Elt F) Λ₀ .tc) α}
    (h : Main m K c R s1 w1 r s2 w2 o e1 e2 ⊢ runs c (k (tlF m c (i / 7) (i % 7 + 1))) Q) :
    Main m K c R s1 w1 r s2 w2 o e1 e2 ⊢ runs c (.op (.load (Memref.whole st2B) (slotR off inb).toLoadRect hl) k) Q :=
  step_load c (slot_sub2 hoff) (read_slot2 m c hoff) (look2 m K c R s1 w1 r s2 w2 o e1 e2 hi hw) h

/-! ## The rounded rows and the own rows of the result -/

/-- Half `r` is still as it was, half by half. -/
theorem rows_out (hr : r < 2) : iprop(rows m c r 0 ∗ rows m c r 1)
    ⊢ iprop((∃ f : Vec F S64x512 .bf16, (c : Thread nD τ).loc rbuf ↦[half r]{fullShare} f)
      ∗ ((halfP c r (shareDrop fullShare 7) (rbF m c) -∗ (rows m c (r + 1) 0 ∗ rows m c (r + 1) 1))
        ∧ ((∃ f : Vec F S64x512 .bf16, (c : Thread nD τ).loc rbuf ↦[half r]{fullShare} f) -∗ (rows m c r 0 ∗ rows m c r 1)))) := by
  have hr' : r = 0 ∨ r = 1 := by omega
  rcases hr' with rfl | rfl
  · unfold rows halfP
    rw [if_neg (by decide : ¬ (0 : ℕ) < 0), if_neg (by decide : ¬ (1 : ℕ) < 0), if_pos (by decide : (0 : ℕ) < 0 + 1), if_neg (by decide : ¬ (1 : ℕ) < 0 + 1)]
    iintro ⟨H0, H1⟩
    isplitl [H0]; · iexact H0
    isplit
    · iintro H0
      isplitl [H0]; · iexact H0
      iexact H1
    · iintro H0
      isplitl [H0]; · iexact H0
      iexact H1
  · unfold rows halfP
    rw [if_pos (by decide : (0 : ℕ) < 1), if_neg (by decide : ¬ (1 : ℕ) < 1), if_pos (by decide : (0 : ℕ) < 1 + 1), if_pos (by decide : (1 : ℕ) < 1 + 1)]
    iintro ⟨H0, H1⟩
    isplitl [H1]; · iexact H1
    isplit
    · iintro H1
      isplitl [H0]; · iexact H0
      iexact H1
    · iintro H1
      isplitl [H0]; · iexact H0
      iexact H1

theorem share_list (hr : r < 2) : (bigSep (Finset.range 7) fun i => halfP c r (shareTokN fullShare i) (rbF m c)) = shares m c (r + 1) (7 * r) := by
  have hr' : r = 0 ∨ r = 1 := by omega
  unfold shares
  rw [bigSep_eq_bigSepL_of_eq (S := Finset.range 7) [0, 1, 2, 3, 4, 5, 6] (by decide) (by decide)]
  rcases hr' with rfl | rfl
  · rw [bigSep_eq_bigSepL_of_eq (S := Finset.Ico (7 * 0) (7 * (0 + 1))) [0, 1, 2, 3, 4, 5, 6] (by decide) (by decide)]
    rfl
  · rw [bigSep_eq_bigSepL_of_eq (S := Finset.Ico (7 * 1) (7 * (1 + 1))) [7, 8, 9, 10, 11, 12, 13] (by decide) (by decide)]
    rfl

omit [FloatOps F] in
theorem half_sub {off : Fin 2 → ℕ} {inb} {h : ℕ} (hoff : off = ![0, 256 * h]) :
    (Memref.whole rbuf).view.setOn (halfR off inb).toLoadRect.set ⊆ half h := by
  intro i hi
  obtain ⟨x, hx, rfl⟩ := Finset.mem_map.mp hi
  rw [← halfR_set (inb := inb) hoff]
  exact hx

omit [FloatOps F] in
theorem half_acc {off : Fin 2 → ℕ} {inb} {h : ℕ} (hoff : off = ![0, 256 * h]) :
    ((Memref.whole rbuf).access (halfR off inb)).set = half h :=
  (View.set_slice_whole rbuf (halfR off inb)).trans (halfR_set hoff)

omit [FloatOps F] in
theorem out_acc {off : Fin 2 → ℕ} {inb} {t h : ℕ} (hoff : off = ![64 * t, 256 * h]) :
    ((Memref.whole outB).access (srcR off inb)).set = chunk t h :=
  (View.set_slice_whole outB (srcR off inb)).trans (srcR_set hoff)

/-- The load that precedes the store of a rounded half, whose value is not used. -/
theorem load_half (hr : r < 2) {off : Fin 2 → ℕ} {inb} (hoff : off = ![0, 256 * r]) {hl}
    {k : Vec F S64x256 .bf16 → Prog (TpuEff nD τ sig (Elt F) Λ₀ .tc) α}
    (h : ∀ v, Main m K c R s1 w1 r s2 w2 o e1 e2 ⊢ runs c (k v) Q) :
    Main m K c R s1 w1 r s2 w2 o e1 e2 ⊢ runs c (.op (.load (Memref.whole rbuf) (halfR off inb).toLoadRect hl) k) Q := by
  refine (show Main m K c R s1 w1 r s2 w2 o e1 e2
    ⊢ iprop((∃ f : Vec F S64x512 .bf16, (c : Thread nD τ).loc rbuf ↦[half r]{fullShare} f)
      ∗ ((∃ f : Vec F S64x512 .bf16, (c : Thread nD τ).loc rbuf ↦[half r]{fullShare} f) -∗ Main m K c R s1 w1 r s2 w2 o e1 e2)) from ?_).trans ?_
  · unfold Main
    iintro ⟨#HC, HI, HO, HzB, Hown, Hun, Ho1, H3, H5, Hr⟩
    ihave Hx := (rows_out m c r hr) $$ H5
    icases Hx with ⟨Hf, Hb⟩
    isplitl [Hf]; · iexact Hf
    iintro Hf
    isplitr; · iexact HC
    isplitl [HI]; · iexact HI
    isplitl [HO]; · iexact HO
    isplitl [HzB]; · iexact HzB
    isplitl [Hown]; · iexact Hown
    isplitl [Hun]; · iexact Hun
    isplitl [Ho1]; · iexact Ho1
    isplitl [H3]; · iexact H3
    isplitl [Hb Hf]
    · icases Hb with ⟨-, Hb⟩
      iapply Hb; iexact Hf
    iexact Hr
  iintro ⟨⟨%f, Hf⟩, HS⟩
  iapply (wp_load 𝒱₀ (c : Thread nD τ) none Set.univ (m := Memref.whole rbuf) (half_sub (inb := inb) hoff)) $$ Hf
  iintro Hf
  iapply (h _)
  iapply HS; iexists f; iexact Hf

/-- A store to the result: the elements outside stay. -/
theorem out_write {off : Fin 2 → ℕ} {inb} {t h : ℕ} (hoff : off = ![64 * t, 256 * h]) (f : Vec F S512x512 .f32) (w : Vec F S64x256 .f32)
    (hw : ((Memref.whole outB).access (srcR off inb)).read (Elt F) (outF m c) = w) (i : S512x512.Idx) :
    ((Memref.whole outB).access (srcR off inb)).write (Elt F) f w Finset.univ i = if i ∈ chunk t h then outF m c i else f i := by
  split
  · next hi => exact write_agree ((Memref.whole outB).access (srcR off inb)) f (outF m c) w hw i (by rw [out_acc hoff]; exact hi)
  · next hi => exact View.write_of_not_mem _ _ _ (by
      intro hx
      exact hi ((out_acc (inb := inb) hoff) ▸ hx))

/-- Storing a rounded half, then the same rows to the result. -/
theorem store_own (hr : r < 2) (hs : s2 = 7 * r) {off off' : Fin 2 → ℕ} {inb inb' inb''} (hoff : off = ![0, 256 * r])
    (hoff' : off' = ![64 * c.val, 256 * r]) {w : Vec F S64x256 .bf16} {w' : Vec F S64x256 .f32} (hw : w = rbH m c r) (hw' : w' = accF m c r)
    {hx hm hl hx' hm'} {k : PUnit → Prog (TpuEff nD τ sig (Elt F) Λ₀ .tc) α}
    (h : Main m K c R s1 w1 (r + 1) s2 w2 o e1 e2 ⊢ runs c (k ⟨⟩) Q) :
    Main m K c R s1 w1 r s2 w2 o e1 e2 ⊢ runs c (.op (.store (Memref.whole rbuf) (halfR off inb) w Finset.univ hx hm) fun _ =>
      .op (.load (Memref.whole outB) (srcR off' inb').toLoadRect hl) fun _ =>
      .op (.store (Memref.whole outB) (srcR off' inb'') w' Finset.univ hx' hm') k) Q := by
  subst hw hw' hs
  have hS : ((Memref.whole rbuf).access (halfR off inb)).setOn Finset.univ ⊆ half r := Finset.subset_of_eq (half_acc (inb := inb) hoff)
  unfold Main
  iintro ⟨#HC, HI, HO, HzB, Hown, Hun, Ho1, H3, H5, Hsh, Ho2, H4, H6, HR⟩
  ihave Hx := (rows_out m c r hr) $$ H5
  icases Hx with ⟨⟨%f, Hf⟩, Hb⟩
  iapply (wp_store 𝒱₀ (c : Thread nD τ) none Set.univ (m := Memref.whole rbuf) (r := halfR off inb) (Mk := Finset.univ) hS) $$ Hf
  iintro Hf
  ihave Hf := (show ((c : Thread nD τ).loc rbuf ↦[half r]{fullShare} ((Memref.whole rbuf).access (halfR off inb)).write (Elt F) f (rbH m c r) Finset.univ)
      ⊢ ((c : Thread nD τ).loc rbuf ↦[half r]{fullShare} rbF m c) from Entails.of_eq (pointsTo_congr (by
        rw [← half_acc (inb := inb) hoff]
        exact write_agree ((Memref.whole rbuf).access (halfR off inb)) f (rbF m c) _ (read_half m c hoff)))) $$ Hf
  ihave Hf := (Transfers.pointsTo_toks_range (Val := Elt F) (ℓ := (c : Thread nD τ).loc rbuf) (S := half r) (f := rbF m c) fullShare 7).1 $$ Hf
  icases Hf with ⟨Hkeep, Htoks⟩
  ihave Htoks := (show (bigSep (Finset.range 7) fun i => ((c : Thread nD τ).loc rbuf ↦[half r]{shareTokN fullShare i} rbF m c))
    ⊢ shares m c (r + 1) (7 * r) from Entails.of_eq (share_list m c r hr)) $$ Htoks
  unfold res
  icases H6 with ⟨%g, %hg, Hg⟩
  iapply (wp_load 𝒱₀ (c : Thread nD τ) none Set.univ (m := Memref.whole outB) (Finset.subset_univ _)) $$ Hg
  iintro Hg
  iapply (wp_store 𝒱₀ (c : Thread nD τ) none Set.univ (m := Memref.whole outB) (r := srcR off' inb'') (Mk := Finset.univ) (Finset.subset_univ _)) $$ Hg
  iintro Hg
  iapply h
  unfold Main res
  isplitr; · iexact HC
  isplitl [HI]; · iexact HI
  isplitl [HO]; · iexact HO
  isplitl [HzB]; · iexact HzB
  isplitl [Hown]; · iexact Hown
  isplitl [Hun]; · iexact Hun
  isplitl [Ho1]; · iexact Ho1
  isplitl [H3]; · iexact H3
  isplitl [Hb Hkeep]
  · icases Hb with ⟨Hb, -⟩
    iapply Hb
    unfold halfP
    iexact Hkeep
  isplitl [Htoks]; · iexact Htoks
  isplitl [Ho2]; · iexact Ho2
  isplitl [H4]; · iexact H4
  isplitl [Hg]
  · iexists _
    isplitr
    rotate_left
    · iexact Hg
    · ipureintro
      refine ⟨fun h' hh' i hi => ?_, fun k' hk' i hi => ?_⟩
      · rw [out_write m c hoff' g _ (read_out_own m c hoff')]
        split
        · rfl
        · next hn => exact hg.1 h' (Nat.lt_of_le_of_ne (Nat.le_of_lt_succ hh') (fun e => hn (e ▸ hi))) i hi
      · rw [out_write m c hoff' g _ (read_out_own m c hoff')]
        split
        · rfl
        · exact hg.2 k' hk' i hi
  iexact HR

/-- The load that precedes a store to the result, whose value is not used. -/
theorem load_out {off : Fin 2 → ℕ} {inb} {hl} {k : Vec F S64x256 .f32 → Prog (TpuEff nD τ sig (Elt F) Λ₀ .tc) α}
    (h : ∀ v, Main m K c R s1 w1 r s2 w2 o e1 e2 ⊢ runs c (k v) Q) :
    Main m K c R s1 w1 r s2 w2 o e1 e2 ⊢ runs c (.op (.load (Memref.whole outB) (srcR off inb).toLoadRect hl) k) Q := by
  unfold Main res
  iintro ⟨#HC, HI, HO, HzB, Hown, Hun, Ho1, H3, H5, Hsh, Ho2, H4, ⟨%g, %hg, Hg⟩, HR⟩
  iapply (wp_load 𝒱₀ (c : Thread nD τ) none Set.univ (m := Memref.whole outB) (Finset.subset_univ _)) $$ Hg
  iintro Hg
  iapply (h _)
  unfold Main res
  isplitr; · iexact HC
  isplitl [HI]; · iexact HI
  isplitl [HO]; · iexact HO
  isplitl [HzB]; · iexact HzB
  isplitl [Hown]; · iexact Hown
  isplitl [Hun]; · iexact Hun
  isplitl [Ho1]; · iexact Ho1
  isplitl [H3]; · iexact H3
  isplitl [H5]; · iexact H5
  isplitl [Hsh]; · iexact Hsh
  isplitl [Ho2]; · iexact Ho2
  isplitl [H4]; · iexact H4
  isplitl [Hg]
  · iexists g
    isplitr; · ipureintro; exact hg
    iexact Hg
  iexact HR

/-- The store of a landed piece to the result. -/
theorem store_out (ho : o < 14) {off : Fin 2 → ℕ} {inb} (hoff : off = ![64 * (nbr c (8 - (o % 7 + 1))).val, 256 * (o / 7)])
    {w : Vec F S64x256 .f32} (hw : w = wide (tlF m c (o / 7) (o % 7 + 1))) {hx hm} {k : PUnit → Prog (TpuEff nD τ sig (Elt F) Λ₀ .tc) α}
    (h : Main m K c R s1 w1 r s2 w2 (o + 1) e1 e2 ⊢ runs c (k ⟨⟩) Q) :
    Main m K c R s1 w1 r s2 w2 o e1 e2 ⊢ runs c (.op (.store (Memref.whole outB) (srcR off inb) w Finset.univ hx hm) k) Q := by
  subst hw
  have hv := read_out m c (inb := inb) (by omega : 1 ≤ o % 7 + 1) (by omega : o % 7 + 1 < 8) hoff
  unfold Main res
  iintro ⟨#HC, HI, HO, HzB, Hown, Hun, Ho1, H3, H5, Hsh, Ho2, H4, ⟨%g, %hg, Hg⟩, HR⟩
  iapply (wp_store 𝒱₀ (c : Thread nD τ) none Set.univ (m := Memref.whole outB) (r := srcR off inb) (Mk := Finset.univ) (Finset.subset_univ _)) $$ Hg
  iintro Hg
  iapply h
  unfold Main res
  isplitr; · iexact HC
  isplitl [HI]; · iexact HI
  isplitl [HO]; · iexact HO
  isplitl [HzB]; · iexact HzB
  isplitl [Hown]; · iexact Hown
  isplitl [Hun]; · iexact Hun
  isplitl [Ho1]; · iexact Ho1
  isplitl [H3]; · iexact H3
  isplitl [H5]; · iexact H5
  isplitl [Hsh]; · iexact Hsh
  isplitl [Ho2]; · iexact Ho2
  isplitl [H4]; · iexact H4
  isplitl [Hg]
  · iexists _
    isplitr
    rotate_left
    · iexact Hg
    · ipureintro
      refine ⟨fun h' hh' i hi => ?_, fun k' hk' i hi => ?_⟩
      · rw [out_write m c hoff g _ hv]
        split
        · rfl
        · exact hg.1 h' hh' i hi
      · rw [out_write m c hoff g _ hv]
        split
        · rfl
        · next hn => exact hg.2 k' (Nat.lt_of_le_of_ne (Nat.le_of_lt_succ hk') (fun e => hn (e ▸ hi))) i hi
  iexact HR

end Cert.KernelIdeal.Proto

end
-- ==== Proof.BodyA.lean ====
/-
The kernel's operations in order, first part: the signals, the block of partial sums, the barrier and the first exchange's
sends.
-/
module

public import proofs.«01_k».proof.Proof.Steps3
public import proofs.«01_k».proof.Proof.Gen.KernelIdeal.Skeleton

@[expose] public section

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A piece of the kernel at its operands, its result and its own buffers and semaphores. -/
abbrev atBufs {β : Type 1} (p : (arg0 : Memref sig .tc .vmem S512x256 .f32) → arg0.IsWhole → (arg1 : Memref sig .tc .vmem S256x16 .f32) → arg1.IsWhole
    → (arg2 : Memref sig .tc .vmem S512x1 .i32) → arg2.IsWhole → (arg3 : Memref sig .tc .vmem S2x256x512 .f32) → arg3.IsWhole
    → (arg4 : Memref sig .tc .vmem S256x512 .f32) → arg4.IsWhole → (arg5 : Memref sig .tc .vmem S512x512 .f32) → arg5.IsWhole
    → (arg6 : Memref sig .tc .vmem S512x512 .bf16) → arg6.IsWhole → (arg7 : Memref sig .tc .vmem S8x64x512 .bf16) → arg7.IsWhole
    → (arg8 : Memref sig .tc .vmem S64x512 .bf16) → arg8.IsWhole → (arg9 : Memref sig .tc .vmem S8x64x512 .bf16) → arg9.IsWhole
    → DmaSems sig S2x8 → DmaSems sig S2x8 → DmaSems sig S2x8 → DmaSems sig S2x8 → β) : β :=
  p (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7

variable (m : (ℓ : Loc nD τ sig) → Buf (Elt F) ℓ) (K : Cell → ℕ) (c : Dev nD) (R : sProp (MT nD τ sig Unit (Elt F) ℕ UU ℕ))

theorem runs_bind {α β : Type} {S : sProp 𝕄} {p : Prog (TpuEff nD τ sig (Elt F) Λ₀ .tc) β} {f : β → Prog (TpuEff nD τ sig (Elt F) Λ₀ .tc) α} {Q : α → sProp 𝕄}
    (h : S ⊢ runs c p fun a => runs c (f a) Q) : S ⊢ runs c (p >>= f) Q := h.trans (Entails.of_eq (wp_bind ..).symm)

theorem runs_ret {α : Type} {S : sProp 𝕄} {Q : α → sProp 𝕄} {v : α} (h : S ⊢ Q v) : S ⊢ runs c (.ret v) Q := by
  refine h.trans ?_
  show Q v ⊢ wp frame (wpE (defs₀ (F := F)) 𝒱₀ (c : Thread nD τ) none) Set.univ (.ret v) Q
  rw [wp_ret]
  iintro H
  imodintro
  iexact H

variable {α : Type} {Q : α → sProp (MT nD τ sig Unit (Elt F) ℕ UU ℕ)} {s1 w1 r s2 w2 o e1 e2 : ℕ}

/-! ## Where the pieces lie -/

omit [FloatOps F] in
theorem off1_at (s : ℕ) (hs : s < 7) (w : BitVec 32) (hw : w = BitVec.ofNat 32 (1 + s)) :
    k0_off1 c w = ![64 * (nbr c (s % 7 + 1)).val, 256 * (s / 7)] := by
  rw [hw, k0_off1_eq c ⟨s, hs⟩, nbr_val, Nat.mod_eq_of_lt hs, Nat.div_eq_of_lt hs]
  rfl
omit [FloatOps F] in
theorem off2_at (s : ℕ) (hs : 7 ≤ s) (hs' : s < 14) (w : BitVec 32) (hw : w = BitVec.ofNat 32 (1 + (s - 7))) :
    k0_off2 c w = ![64 * (nbr c (s % 7 + 1)).val, 256 * (s / 7)] := by
  rw [hw, k0_off2_eq c ⟨s - 7, by omega⟩, nbr_val, show s % 7 = s - 7 by omega, show s / 7 = 1 by omega]
  rfl
omit [FloatOps F] in
theorem off7_at (o : ℕ) (ho : o < 7) (w : BitVec 32) (hw : w = BitVec.ofNat 32 (1 + o)) :
    k0_off7 c w = ![64 * (nbr c (8 - (o % 7 + 1))).val, 256 * (o / 7)] := by
  rw [hw, k0_off7_eq c ⟨o, ho⟩, nbr_val, Nat.mod_eq_of_lt ho, Nat.div_eq_of_lt ho]
  show ![64 * ((c.val + 7 - o) % 8), 0] = ![64 * ((c.val + (8 - (o + 1))) % 8), 0]
  rw [show c.val + 7 - o = c.val + (8 - (o + 1)) by omega]
omit [FloatOps F] in
theorem off8_at (o : ℕ) (ho : 7 ≤ o) (ho' : o < 14) (w : BitVec 32) (hw : w = BitVec.ofNat 32 (1 + (o - 7))) :
    k0_off8 c w = ![64 * (nbr c (8 - (o % 7 + 1))).val, 256 * (o / 7)] := by
  rw [hw, k0_off8_eq c ⟨o - 7, by omega⟩, nbr_val, show o % 7 = o - 7 by omega, show o / 7 = 1 by omega]
  show ![64 * ((c.val + 7 - (o - 7)) % 8), 256] = ![64 * ((c.val + (8 - (o - 7 + 1))) % 8), 256]
  rw [show c.val + 7 - (o - 7) = c.val + (8 - (o - 7 + 1)) by omega]

/-! ## The steps as they are met -/

theorem send_a {x : ℕ} {hx : x < 8} (hn : x = (c.val + (s1 % 7 + 1)) % 8) {off : Fin 2 → ℕ} {inb} {off' : Fin 3 → ℕ} {inb'}
    {qs qr : DmaSem sig}
    {hsc : (s1M off' inb').view.ref.isScScratch = false} {hsrc : (srcM off inb).view.WordExact} {hdst : (s1M off' inb').view.WordExact}
    {hsem : DmaTarget.Typed .vmem (.dma qr) (.remote (Dev.tc (⟨x, hx⟩ : Dev nD) : Thread nD τ) (s1M off' inb') (.dma qs) hsc)}
    {k : PUnit → Prog (TpuEff nD τ sig (Elt F) Λ₀ .tc) α}
    (h : Main m K c R (s1 + 1) w1 r s2 w2 o 0 e2 ⊢ runs c (k ⟨⟩) Q)
    (hs : s1 < 14 := by decide)
    (hoff : off = ![64 * (nbr c (s1 % 7 + 1)).val, 256 * (s1 / 7)] := by exact off1_at _ _ (by decide) _ rfl)
    (hoff' : off' = ![s1 % 7 + 1, 0, 256 * (s1 / 7)] := by rfl)
    (hqs : qs = dq 0 (s1 / 7) (s1 % 7 + 1) := by rfl) (hqr : qr = dq 1 (s1 / 7) (s1 % 7 + 1) := by rfl) :
    Main m K c R s1 w1 r s2 w2 o 0 e2
      ⊢ runs c (.op (.enqueueDma (srcM off inb) (.remote (Dev.tc (⟨x, hx⟩ : Dev nD) : Thread nD τ) (s1M off' inb') (.dma qs) hsc) (.dma qr) hsrc hdst hsem) k) Q :=
  step_send1 m K c R s1 w1 r s2 w2 o e2 hs (Fin.ext hn) hoff hoff' hqs hqr h

/-- The same for the right half. -/
theorem send_a' {x : ℕ} {hx : x < 8} (hn : x = (c.val + (s1 % 7 + 1)) % 8) {off : Fin 2 → ℕ} {inb} {off' : Fin 3 → ℕ} {inb'}
    {qs qr : DmaSem sig}
    {hsc : (s1M off' inb').view.ref.isScScratch = false} {hsrc : (srcM off inb).view.WordExact} {hdst : (s1M off' inb').view.WordExact}
    {hsem : DmaTarget.Typed .vmem (.dma qr) (.remote (Dev.tc (⟨x, hx⟩ : Dev nD) : Thread nD τ) (s1M off' inb') (.dma qs) hsc)}
    {k : PUnit → Prog (TpuEff nD τ sig (Elt F) Λ₀ .tc) α}
    (h : Main m K c R (s1 + 1) w1 r s2 w2 o 0 e2 ⊢ runs c (k ⟨⟩) Q)
    (hs : s1 < 14 := by decide)
    (hoff : off = ![64 * (nbr c (s1 % 7 + 1)).val, 256 * (s1 / 7)] := by exact off2_at _ _ (by decide) (by decide) _ rfl)
    (hoff' : off' = ![s1 % 7 + 1, 0, 256 * (s1 / 7)] := by rfl)
    (hqs : qs = dq 0 (s1 / 7) (s1 % 7 + 1) := by rfl) (hqr : qr = dq 1 (s1 / 7) (s1 % 7 + 1) := by rfl) :
    Main m K c R s1 w1 r s2 w2 o 0 e2
      ⊢ runs c (.op (.enqueueDma (srcM off inb) (.remote (Dev.tc (⟨x, hx⟩ : Dev nD) : Thread nD τ) (s1M off' inb') (.dma qs) hsc) (.dma qr) hsrc hdst hsem) k) Q :=
  send_a m K c R hn h hs hoff hoff' hqs hqr

theorem send_b {x : ℕ} {hx : x < 8} (hn : x = (c.val + (s2 % 7 + 1)) % 8) {off : Fin 2 → ℕ} {inb} {off' : Fin 3 → ℕ} {inb'}
    {qs qr : DmaSem sig}
    {hsc : (s2M off' inb').view.ref.isScScratch = false} {hsrc : (rbM off inb).view.WordExact} {hdst : (s2M off' inb').view.WordExact}
    {hsem : DmaTarget.Typed .vmem (.dma qr) (.remote (Dev.tc (⟨x, hx⟩ : Dev nD) : Thread nD τ) (s2M off' inb') (.dma qs) hsc)}
    {k : PUnit → Prog (TpuEff nD τ sig (Elt F) Λ₀ .tc) α}
    (h : Main m K c R 14 w1 r (s2 + 1) w2 o e1 0 ⊢ runs c (k ⟨⟩) Q)
    (hs : s2 < 14 := by decide) (hr : s2 < 7 * r := by decide)
    (hoff : off = ![0, 256 * (s2 / 7)] := by rfl) (hoff' : off' = ![s2 % 7 + 1, 0, 256 * (s2 / 7)] := by rfl)
    (hqs : qs = dq 2 (s2 / 7) (s2 % 7 + 1) := by rfl) (hqr : qr = dq 3 (s2 / 7) (s2 % 7 + 1) := by rfl) :
    Main m K c R 14 w1 r s2 w2 o e1 0
      ⊢ runs c (.op (.enqueueDma (rbM off inb) (.remote (Dev.tc (⟨x, hx⟩ : Dev nD) : Thread nD τ) (s2M off' inb') (.dma qs) hsc) (.dma qr) hsrc hdst hsem) k) Q :=
  step_send2 m K c R 14 w1 r s2 w2 o e1 hs hr (Fin.ext hn) hoff hoff' hqs hqr h rfl

/-! ## The parts -/

theorem part1 {Q : (Σ' (d0 : Dev nD) (v2 : BitVec 32) (v3 : Sems sig S_) (v24 : BitVec 32), BitVec 32) → sProp 𝕄}
    (h : ∀ v24 v, Early m K c R 2 False ⊢ Q ⟨c, devW c, SemArray.scalar (sig.barrier 0 rfl), v24, v⟩) :
    Early m K c R 7 False ⊢ runs c (atBufs (k0_part1 (F := F))) Q := by
  simp only [atBufs, k0_part1_eq_skeleton]; unfold k0_part1_skel
  simp only [semSignalWord, semWaitWord, Prog.lift, Prog.bind_op, Prog.bind_ret, Prog.pure_eq_ret, wp_deviceId]
  refine step_signal m K c R 6 False (by decide) (Fin.ext (k0_dev1_eq c)) ?_
  refine step_signal m K c R 5 False (by decide) (Fin.ext (k0_dev2_eq c)) ?_
  refine step_signal m K c R 4 False (by decide) (Fin.ext (k0_dev3_eq c)) ?_
  refine step_signal m K c R 3 False (by decide) (Fin.ext (k0_dev4_eq c)) ?_
  refine step_signal m K c R 2 False (by decide) (Fin.ext (k0_dev5_eq c)) ?_
  exact runs_ret c (h _ _)

theorem part2 {Q : (Σ' (v33 : FVec F S512x256 .f32) (v47 : IVec S512x1 32) (v54 : FVec F S512x1 .f32), FVec F S512x1 .f32) → sProp 𝕄} (v24 v : BitVec 32)
    (h : Early m K c R 0 False ⊢ Q ⟨k0_pay1 (xS m c), k0_pay2 (idS m c), k0_pay3 (xS m c) (rwS m c) (idS m c), k0_pay4 (devW c) (xS m c) (rwS m c) (idS m c)⟩) :
    Early m K c R 2 False ⊢ runs c (atBufs (k0_part2 (F := F)) c (devW c) (SemArray.scalar (sig.barrier 0 rfl)) v24 v) Q := by
  simp only [atBufs, k0_part2_eq_skeleton]; unfold k0_part2_skel
  simp only [semSignalWord, semWaitWord, Prog.lift, Prog.bind_op, Prog.bind_ret, Prog.pure_eq_ret]
  refine step_signal m K c R 1 False (by decide) (Fin.ext (k0_dev6_eq c)) ?_
  refine step_signal m K c R 0 False (by decide) (Fin.ext (k0_dev7_eq c)) ?_
  refine step_load c (Finset.subset_univ _) (read_whole0 m c) (part_of (early_inp m K c R 0 False) (inp_0 m c)) ?_
  refine step_load c (Finset.subset_univ _) (read_whole1 m c) (part_of (early_inp m K c R 0 False) (inp_1 m c)) ?_
  refine step_load c (Finset.subset_univ _) (read_whole2 m c) (part_of (early_inp m K c R 0 False) (inp_2 m c)) ?_
  exact runs_ret c h

theorem part3 {Q : BitVec 32 → sProp 𝕄} (h : ∀ v, Main m K c R 1 0 0 0 0 0 0 0 ⊢ Q v) :
    Early m K c R 0 False ⊢ runs c (atBufs (k0_part3 (F := F)) c (devW c) (SemArray.scalar (sig.barrier 0 rfl)) (k0_pay1 (xS m c)) (k0_pay2 (idS m c))
      (k0_pay3 (xS m c) (rwS m c) (idS m c)) (k0_pay4 (devW c) (xS m c) (rwS m c) (idS m c))) Q := by
  simp only [atBufs, k0_part3_eq_skeleton]; unfold k0_part3_skel
  simp only [semSignalWord, semWaitWord, Prog.lift, Prog.bind_op, Prog.bind_ret, Prog.pure_eq_ret]
  refine step_load c (Finset.subset_univ _) (read_whole3 m c) (part_of (early_inp m K c R 0 False) (inp_3 m c)) ?_
  refine store_pbuf m K c R 0 False rfl ?_
  refine step_barrier m K c R ?_
  refine send_a m K c R (k0_dev8_eq c) ?_
  exact runs_ret c (h _)

theorem part4 {Q : (Σ' (v95 : BitVec 32) (v107 : BitVec 32), BitVec 32) → sProp 𝕄} (a : BitVec 32) (h : ∀ v, Main m K c R 3 0 0 0 0 0 0 0 ⊢ Q v) :
    Main m K c R 1 0 0 0 0 0 0 0 ⊢ runs c (atBufs (k0_part4 (F := F)) c a) Q := by
  simp only [atBufs, k0_part4_eq_skeleton]; unfold k0_part4_skel
  simp only [Prog.lift, Prog.bind_op, Prog.bind_ret, Prog.pure_eq_ret]
  refine send_a m K c R (k0_dev9_eq c) ?_
  refine send_a m K c R (k0_dev10_eq c) ?_
  exact runs_ret c (h _)

theorem part5 {Q : (Σ' (v131 : BitVec 32), BitVec 32) → sProp 𝕄} (a b : BitVec 32) (h : ∀ v, Main m K c R 5 0 0 0 0 0 0 0 ⊢ Q v) :
    Main m K c R 3 0 0 0 0 0 0 0 ⊢ runs c (atBufs (k0_part5 (F := F)) c a b) Q := by
  simp only [atBufs, k0_part5_eq_skeleton]; unfold k0_part5_skel
  simp only [Prog.lift, Prog.bind_op, Prog.bind_ret, Prog.pure_eq_ret]
  refine send_a m K c R (k0_dev11_eq c) ?_
  refine send_a m K c R (k0_dev12_eq c) ?_
  exact runs_ret c (h _)

theorem part6 {Q : (Σ' (v155 : BitVec 32), BitVec 32) → sProp 𝕄} (a : BitVec 32) (h : ∀ v, Main m K c R 7 0 0 0 0 0 0 0 ⊢ Q v) :
    Main m K c R 5 0 0 0 0 0 0 0 ⊢ runs c (atBufs (k0_part6 (F := F)) c a) Q := by
  simp only [atBufs, k0_part6_eq_skeleton]; unfold k0_part6_skel
  simp only [Prog.lift, Prog.bind_op, Prog.bind_ret, Prog.pure_eq_ret]
  refine send_a m K c R (k0_dev13_eq c) ?_
  refine send_a m K c R (k0_dev14_eq c) ?_
  exact runs_ret c (h _)

theorem part7 {Q : (Σ' (v179 : BitVec 32) (v191 : BitVec 32), BitVec 32) → sProp 𝕄} (a : BitVec 32) (h : ∀ v, Main m K c R 10 0 0 0 0 0 0 0 ⊢ Q v) :
    Main m K c R 7 0 0 0 0 0 0 0 ⊢ runs c (atBufs (k0_part7 (F := F)) c a) Q := by
  simp only [atBufs, k0_part7_eq_skeleton]; unfold k0_part7_skel
  simp only [Prog.lift, Prog.bind_op, Prog.bind_ret, Prog.pure_eq_ret]
  refine send_a' m K c R (k0_dev15_eq c) ?_
  refine send_a' m K c R (k0_dev16_eq c) ?_
  refine send_a' m K c R (k0_dev17_eq c) ?_
  exact runs_ret c (h _)

theorem part8 {Q : (Σ' (v215 : BitVec 32) (v227 : BitVec 32) (v229 : BitVec 32), BitVec 32) → sProp 𝕄} (a b : BitVec 32)
    (h : ∀ v, Main m K c R 12 0 0 0 0 0 0 0 ⊢ Q v) :
    Main m K c R 10 0 0 0 0 0 0 0 ⊢ runs c (atBufs (k0_part8 (F := F)) c a b) Q := by
  simp only [atBufs, k0_part8_eq_skeleton]; unfold k0_part8_skel
  simp only [Prog.lift, Prog.bind_op, Prog.bind_ret, Prog.pure_eq_ret]
  refine send_a' m K c R (k0_dev18_eq c) ?_
  refine send_a' m K c R (k0_dev19_eq c) ?_
  exact runs_ret c (h _)

theorem part9 {Q : (Σ' (v239 : BitVec 32) (v263 : FVec F S64x512 .f32), FVec F S64x256 .f32) → sProp 𝕄} (a b d : BitVec 32)
    (h : ∀ v, Main m K c R 14 0 0 0 0 0 0 0 ⊢ Q ⟨v, base m c, base0 m c⟩) :
    Main m K c R 12 0 0 0 0 0 0 0 ⊢ runs c (atBufs (k0_part9 (F := F)) c a b d) Q := by
  simp only [atBufs, k0_part9_eq_skeleton]; unfold k0_part9_skel
  simp only [Prog.lift, Prog.bind_op, Prog.bind_ret, Prog.pure_eq_ret]
  refine send_a' m K c R (k0_dev20_eq c) ?_
  refine send_a' m K c R (k0_dev21_eq c) ?_
  refine step_load c (Finset.subset_univ _) (read_xRow m c (k0_off3_eq c)) (part_of (main_inp m K c R 14 0 0 0 0 0 0 0) (inp_0 m c)) ?_
  refine step_load c (Finset.subset_univ _) (read_whole4 m c) (part_of (main_inp m K c R 14 0 0 0 0 0 0 0) (inp_4 m c)) ?_
  refine step_load c (own_sub c (k0_off4_eq c)) (read_pRow m c (k0_off4_eq c)) (main_own m K c R 14 0 0 0 0 0 0 0) ?_
  exact runs_ret c (h _)

end Cert.KernelIdeal.Proto

end
-- ==== Proof.BodyB.lean ====
/-
The kernel's operations in order, second part: the landings of the first exchange are added up, half by half, and each
finished half is rounded, stored and sent on.
-/
module

public import proofs.«01_k».proof.Proof.BodyA

@[expose] public section

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Cell → ℕ) (c : Dev nD) (R : sProp (MT nD τ sig Unit (Elt F) ℕ UU ℕ))
variable {α : Type} {Q : α → sProp (MT nD τ sig Unit (Elt F) ℕ UU ℕ)} {s1 w1 r s2 w2 o e1 e2 : ℕ}

/-! ## The steps as they are met -/

theorem recv_a {sem : DmaSem sig}
    {sp sp' : Space} {s s' : Shape} {e e' : EltTy} {src : Memref sig .tc sp' s' e'} {dst : Memref sig .tc sp s e}
    {hsrc : src.view.WordExact} {hdst : dst.view.WordExact} {k : PUnit → Prog (TpuEff nD τ sig (Elt F) Λ₀ .tc) α}
    (h : Main m K c R 14 (w1 + 1) r s2 w2 o e1 e2 ⊢ runs c (k ⟨⟩) Q) (hw : w1 < 14 := by decide) (hsem : sem = dq 1 (w1 / 7) (w1 % 7 + 1) := by rfl)
    (hN : dst.view.dmaCredit = NN := by rfl) :
    Main m K c R 14 w1 r s2 w2 o e1 e2 ⊢ runs c (.op (.waitDma2 sem src dst hsrc hdst) k) Q :=
  step_recv1 m K c R w1 r s2 w2 o e1 e2 hw hsem hN h

theorem recv_b {sem : DmaSem sig}
    {sp sp' : Space} {s s' : Shape} {e e' : EltTy} {src : Memref sig .tc sp' s' e'} {dst : Memref sig .tc sp s e}
    {hsrc : src.view.WordExact} {hdst : dst.view.WordExact} {k : PUnit → Prog (TpuEff nD τ sig (Elt F) Λ₀ .tc) α}
    (h : Main m K c R 14 w1 r 14 (w2 + 1) o e1 e2 ⊢ runs c (k ⟨⟩) Q) (hw : w2 < 14 := by decide) (hsem : sem = dq 3 (w2 / 7) (w2 % 7 + 1) := by rfl)
    (hN : dst.view.dmaCredit = NN := by rfl) :
    Main m K c R 14 w1 r 14 w2 o e1 e2 ⊢ runs c (.op (.waitDma2 sem src dst hsrc hdst) k) Q :=
  step_recv2 m K c R w1 r w2 o e1 e2 hw hsem hN h

theorem sent_a {sem : DmaSem sig}
    {sp sp' : Space} {s s' : Shape} {e e' : EltTy} {src : Memref sig .tc sp' s' e'} {dst : Memref sig .tc sp s e}
    {hsrc : src.view.WordExact} {hdst : dst.view.WordExact} {k : PUnit → Prog (TpuEff nD τ sig (Elt F) Λ₀ .tc) α}
    (h : Main m K c R 14 w1 r 14 w2 o (e1 + 1) e2 ⊢ runs c (k ⟨⟩) Q) (hw : e1 < 14 := by decide) (hsem : sem = dq 0 (e1 / 7) (e1 % 7 + 1) := by rfl)
    (hN : dst.view.dmaCredit = NN := by rfl) :
    Main m K c R 14 w1 r 14 w2 o e1 e2 ⊢ runs c (.op (.waitDma2 sem src dst hsrc hdst) k) Q :=
  step_sent1 m K c R w1 r w2 o e1 e2 hw hsem hN h

theorem sent_b {sem : DmaSem sig}
    {sp sp' : Space} {s s' : Shape} {e e' : EltTy} {src : Memref sig .tc sp' s' e'} {dst : Memref sig .tc sp s e}
    {hsrc : src.view.WordExact} {hdst : dst.view.WordExact} {k : PUnit → Prog (TpuEff nD τ sig (Elt F) Λ₀ .tc) α}
    (h : Main m K c R 14 w1 r 14 w2 o e1 (e2 + 1) ⊢ runs c (k ⟨⟩) Q) (hw : e2 < 14 := by decide) (hsem : sem = dq 2 (e2 / 7) (e2 % 7 + 1) := by rfl)
    (hN : dst.view.dmaCredit = NN := by rfl) :
    Main m K c R 14 w1 r 14 w2 o e1 e2 ⊢ runs c (.op (.waitDma2 sem src dst hsrc hdst) k) Q :=
  step_sent2 m K c R w1 r w2 o e1 e2 hw hsem hN h

theorem take_a {off : Fin 3 → ℕ} {inb} {hl}
    {k : Vec F S1x64x256 .bf16 → Prog (TpuEff nD τ sig (Elt F) Λ₀ .tc) α}
    (h : Main m K c R s1 (w1 + 1) r s2 w2 o e1 e2 ⊢ runs c (k (slF m c (w1 / 7) (w1 % 7 + 1))) Q)
    (hw : w1 + 1 ≤ 14 := by decide) (hoff : off = ![w1 % 7 + 1, 0, 256 * (w1 / 7)] := by rfl) :
    Main m K c R s1 (w1 + 1) r s2 w2 o e1 e2 ⊢ runs c (.op (.load (Memref.whole stgB) (slotR off inb).toLoadRect hl) k) Q :=
  load_slot1 m K c R s1 (w1 + 1) r s2 w2 o e1 e2 w1 (Nat.lt_succ_self _) hw hoff h

theorem take_b {off : Fin 3 → ℕ} {inb} {hl}
    {k : Vec F S1x64x256 .bf16 → Prog (TpuEff nD τ sig (Elt F) Λ₀ .tc) α}
    (h : Main m K c R s1 w1 r s2 (w2 + 1) o e1 e2 ⊢ runs c (k (tlF m c (w2 / 7) (w2 % 7 + 1))) Q)
    (hw : w2 + 1 ≤ 14 := by decide) (hoff : off = ![w2 % 7 + 1, 0, 256 * (w2 / 7)] := by rfl) :
    Main m K c R s1 w1 r s2 (w2 + 1) o e1 e2 ⊢ runs c (.op (.load (Memref.whole st2B) (slotR off inb).toLoadRect hl) k) Q :=
  load_slot2 m K c R s1 w1 r s2 (w2 + 1) o e1 e2 w2 (Nat.lt_succ_self _) hw hoff h

/-! ## The parts -/

theorem part10 {Q : (FVec F S64x256 .f32) → sProp 𝕄} (a b d : BitVec 32)
    (h : Main m K c R 14 2 0 0 0 0 0 0 ⊢ Q (acc2 m c)) :
    Main m K c R 14 0 0 0 0 0 0 0 ⊢ runs c (atBufs (k0_part10 (F := F)) c a b d (base0 m c)) Q := by
  simp only [atBufs, k0_part10_eq_skeleton]; unfold k0_part10_skel
  simp only [Prog.lift, Prog.bind_op, Prog.bind_ret, Prog.pure_eq_ret]
  refine recv_a m K c R ?_
  refine take_a m K c R ?_
  refine recv_a m K c R ?_
  refine take_a m K c R ?_
  exact runs_ret c h

theorem part11 {Q : (FVec F S64x256 .f32) → sProp 𝕄} (a b : BitVec 32)
    (h : Main m K c R 14 5 0 0 0 0 0 0 ⊢ Q (acc4 m c)) :
    Main m K c R 14 2 0 0 0 0 0 0 ⊢ runs c (atBufs (k0_part11 (F := F)) c a b (acc2 m c)) Q := by
  simp only [atBufs, k0_part11_eq_skeleton]; unfold k0_part11_skel
  simp only [Prog.lift, Prog.bind_op, Prog.bind_ret, Prog.pure_eq_ret]
  refine recv_a m K c R ?_
  refine take_a m K c R ?_
  refine recv_a m K c R ?_
  refine take_a m K c R ?_
  refine recv_a m K c R ?_
  exact runs_ret c h

theorem part12 {Q : (Σ' (v341 : FVec F S64x256 .f32), FVec F S64x256 .bf16) → sProp 𝕄} (a b : BitVec 32)
    (h : Main m K c R 14 7 0 0 0 0 0 0 ⊢ Q ⟨accF m c 0, k0_pay11 (acc4 m c) (slF m c 0 5) (slF m c 0 6) (slF m c 0 7)⟩) :
    Main m K c R 14 5 0 0 0 0 0 0 ⊢ runs c (atBufs (k0_part12 (F := F)) c a b (acc4 m c)) Q := by
  simp only [atBufs, k0_part12_eq_skeleton]; unfold k0_part12_skel
  simp only [Prog.lift, Prog.bind_op, Prog.bind_ret, Prog.pure_eq_ret]
  refine take_a m K c R ?_
  refine recv_a m K c R ?_
  refine take_a m K c R ?_
  refine recv_a m K c R ?_
  refine take_a m K c R ?_
  refine load_half m K c R 14 7 0 0 0 0 0 0 (by decide) rfl fun _ => ?_
  exact runs_ret c h

theorem part13 {Q : (Σ' (v350 : BitVec 32) (v361 : BitVec 32), BitVec 32) → sProp 𝕄} (a : BitVec 32)
    (h : ∀ v, Main m K c R 14 7 1 2 0 0 0 0 ⊢ Q v) :
    Main m K c R 14 7 0 0 0 0 0 0 ⊢ runs c (atBufs (k0_part13 (F := F)) c a (accF m c 0) (k0_pay11 (acc4 m c) (slF m c 0 5) (slF m c 0 6) (slF m c 0 7))) Q := by
  simp only [atBufs, k0_part13_eq_skeleton]; unfold k0_part13_skel
  simp only [Prog.lift, Prog.bind_op, Prog.bind_ret, Prog.pure_eq_ret]
  refine store_own m K c R 14 7 0 0 0 0 0 0 (by decide) rfl rfl (k0_off5_eq c) rfl rfl ?_
  refine send_b m K c R (k0_dev22_eq c) ?_
  refine send_b m K c R (k0_dev23_eq c) ?_
  exact runs_ret c (h _)

theorem part14 {Q : (Σ' (v372 : BitVec 32) (v383 : BitVec 32) (v394 : BitVec 32) (v395 : BitVec 32), BitVec 32) → sProp 𝕄} (a b : BitVec 32)
    (h : ∀ v, Main m K c R 14 7 1 4 0 0 0 0 ⊢ Q v) :
    Main m K c R 14 7 1 2 0 0 0 0 ⊢ runs c (atBufs (k0_part14 (F := F)) c a b) Q := by
  simp only [atBufs, k0_part14_eq_skeleton]; unfold k0_part14_skel
  simp only [Prog.lift, Prog.bind_op, Prog.bind_ret, Prog.pure_eq_ret]
  refine send_b m K c R (k0_dev24_eq c) ?_
  refine send_b m K c R (k0_dev25_eq c) ?_
  exact runs_ret c (h _)

theorem part15 {Q : (Σ' (v405 : BitVec 32), BitVec 32) → sProp 𝕄} (a b d : BitVec 32)
    (h : ∀ v, Main m K c R 14 7 1 6 0 0 0 0 ⊢ Q v) :
    Main m K c R 14 7 1 4 0 0 0 0 ⊢ runs c (atBufs (k0_part15 (F := F)) c a b d) Q := by
  simp only [atBufs, k0_part15_eq_skeleton]; unfold k0_part15_skel
  simp only [Prog.lift, Prog.bind_op, Prog.bind_ret, Prog.pure_eq_ret]
  refine send_b m K c R (k0_dev26_eq c) ?_
  refine send_b m K c R (k0_dev27_eq c) ?_
  exact runs_ret c (h _)

theorem part16 {Q : (Σ' (v448 : FVec F S64x256 .f32), BitVec 32) → sProp 𝕄} (a b : BitVec 32)
    (h : ∀ v, Main m K c R 14 9 1 7 0 0 0 0 ⊢ Q ⟨bcc2 m c, v⟩) :
    Main m K c R 14 7 1 6 0 0 0 0 ⊢ runs c (atBufs (k0_part16 (F := F)) c a b (base m c)) Q := by
  simp only [atBufs, k0_part16_eq_skeleton]; unfold k0_part16_skel
  simp only [Prog.lift, Prog.bind_op, Prog.bind_ret, Prog.pure_eq_ret]
  refine send_b m K c R (k0_dev28_eq c) ?_
  refine recv_a m K c R ?_
  refine take_a m K c R ?_
  refine recv_a m K c R ?_
  refine take_a m K c R ?_
  exact runs_ret c (h _)

theorem part17 {Q : (FVec F S64x256 .f32) → sProp 𝕄} (a b d e : BitVec 32)
    (h : Main m K c R 14 11 1 7 0 0 0 0 ⊢ Q (bcc4 m c)) :
    Main m K c R 14 9 1 7 0 0 0 0 ⊢ runs c (atBufs (k0_part17 (F := F)) c a b d (bcc2 m c) e) Q := by
  simp only [atBufs, k0_part17_eq_skeleton]; unfold k0_part17_skel
  simp only [Prog.lift, Prog.bind_op, Prog.bind_ret, Prog.pure_eq_ret]
  refine recv_a m K c R ?_
  refine take_a m K c R ?_
  refine recv_a m K c R ?_
  refine take_a m K c R ?_
  exact runs_ret c h

theorem part18 {Q : (Σ' (v503 : FVec F S64x256 .f32), FVec F S64x256 .bf16) → sProp 𝕄} (a b : BitVec 32)
    (h : Main m K c R 14 14 1 7 0 0 0 0 ⊢ Q ⟨accF m c 1, k0_pay16 (bcc4 m c) (slF m c 1 5) (slF m c 1 6) (slF m c 1 7)⟩) :
    Main m K c R 14 11 1 7 0 0 0 0 ⊢ runs c (atBufs (k0_part18 (F := F)) c a b (bcc4 m c)) Q := by
  simp only [atBufs, k0_part18_eq_skeleton]; unfold k0_part18_skel
  simp only [Prog.lift, Prog.bind_op, Prog.bind_ret, Prog.pure_eq_ret]
  refine recv_a m K c R ?_
  refine take_a m K c R ?_
  refine recv_a m K c R ?_
  refine take_a m K c R ?_
  refine recv_a m K c R ?_
  refine take_a m K c R ?_
  exact runs_ret c h

theorem part19 {Q : (Σ' (v512 : BitVec 32), BitVec 32) → sProp 𝕄} (a : BitVec 32)
    (h : ∀ v, Main m K c R 14 14 2 8 0 0 0 0 ⊢ Q v) :
    Main m K c R 14 14 1 7 0 0 0 0 ⊢ runs c (atBufs (k0_part19 (F := F)) c a (accF m c 1) (k0_pay16 (bcc4 m c) (slF m c 1 5) (slF m c 1 6) (slF m c 1 7))) Q := by
  simp only [atBufs, k0_part19_eq_skeleton]; unfold k0_part19_skel
  simp only [Prog.lift, Prog.bind_op, Prog.bind_ret, Prog.pure_eq_ret]
  refine load_half m K c R 14 14 1 7 0 0 0 0 (by decide) rfl fun _ => ?_
  refine store_own m K c R 14 14 1 7 0 0 0 0 (by decide) rfl rfl (k0_off6_eq c) rfl rfl ?_
  refine send_b m K c R (k0_dev29_eq c) ?_
  exact runs_ret c (h _)

theorem part20 {Q : (Σ' (v534 : BitVec 32) (v545 : BitVec 32), BitVec 32) → sProp 𝕄} (a : BitVec 32)
    (h : ∀ v, Main m K c R 14 14 2 11 0 0 0 0 ⊢ Q v) :
    Main m K c R 14 14 2 8 0 0 0 0 ⊢ runs c (atBufs (k0_part20 (F := F)) c a) Q := by
  simp only [atBufs, k0_part20_eq_skeleton]; unfold k0_part20_skel
  simp only [Prog.lift, Prog.bind_op, Prog.bind_ret, Prog.pure_eq_ret]
  refine send_b m K c R (k0_dev30_eq c) ?_
  refine send_b m K c R (k0_dev31_eq c) ?_
  refine send_b m K c R (k0_dev32_eq c) ?_
  exact runs_ret c (h _)

theorem part21 {Q : (Σ' (v567 : BitVec 32), BitVec 32) → sProp 𝕄} (a b : BitVec 32)
    (h : ∀ v, Main m K c R 14 14 2 13 0 0 0 0 ⊢ Q v) :
    Main m K c R 14 14 2 11 0 0 0 0 ⊢ runs c (atBufs (k0_part21 (F := F)) c a b) Q := by
  simp only [atBufs, k0_part21_eq_skeleton]; unfold k0_part21_skel
  simp only [Prog.lift, Prog.bind_op, Prog.bind_ret, Prog.pure_eq_ret]
  refine send_b m K c R (k0_dev33_eq c) ?_
  refine send_b m K c R (k0_dev34_eq c) ?_
  exact runs_ret c (h _)

end Cert.KernelIdeal.Proto

end
-- ==== Proof.BodyC.lean ====
/-
The kernel's operations in order, last part: the second exchange's landings are widened into the result, every send is
waited for, and the parts are put together.
-/
module

public import proofs.«01_k».proof.Proof.BodyB

@[expose] public section

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Cell → ℕ) (c : Dev nD) (R : sProp (MT nD τ sig Unit (Elt F) ℕ UU ℕ))
variable {α : Type} {Q : α → sProp (MT nD τ sig Unit (Elt F) ℕ UU ℕ)} {s1 w1 r s2 w2 o e1 e2 : ℕ}

/-! ## The steps as they are met -/

theorem store_c {off : Fin 2 → ℕ} {inb} {w : Vec F S64x256 .f32} {hx hm} {k : PUnit → Prog (TpuEff nD τ sig (Elt F) Λ₀ .tc) α}
    (h : Main m K c R s1 w1 r s2 w2 (o + 1) e1 e2 ⊢ runs c (k ⟨⟩) Q) (ho : o < 7 := by decide)
    (hoff : off = ![64 * (nbr c (8 - (o % 7 + 1))).val, 256 * (o / 7)] := by exact off7_at _ _ (by decide) _ rfl)
    (hw : w = wide (tlF m c (o / 7) (o % 7 + 1)) := by rfl) :
    Main m K c R s1 w1 r s2 w2 o e1 e2 ⊢ runs c (.op (.store (Memref.whole outB) (srcR off inb) w Finset.univ hx hm) k) Q :=
  store_out m K c R s1 w1 r s2 w2 o e1 e2 (by omega) hoff hw h

/-- The same for the right half. -/
theorem store_c' {off : Fin 2 → ℕ} {inb} {w : Vec F S64x256 .f32} {hx hm} {k : PUnit → Prog (TpuEff nD τ sig (Elt F) Λ₀ .tc) α}
    (h : Main m K c R s1 w1 r s2 w2 (o + 1) e1 e2 ⊢ runs c (k ⟨⟩) Q) (ho : o < 14 := by decide)
    (hoff : off = ![64 * (nbr c (8 - (o % 7 + 1))).val, 256 * (o / 7)] := by exact off8_at _ _ (by decide) (by decide) _ rfl)
    (hw : w = wide (tlF m c (o / 7) (o % 7 + 1)) := by rfl) :
    Main m K c R s1 w1 r s2 w2 o e1 e2 ⊢ runs c (.op (.store (Memref.whole outB) (srcR off inb) w Finset.univ hx hm) k) Q :=
  store_out m K c R s1 w1 r s2 w2 o e1 e2 ho hoff hw h

theorem skip_out {off : Fin 2 → ℕ} {inb} {hl} {k : Vec F S64x256 .f32 → Prog (TpuEff nD τ sig (Elt F) Λ₀ .tc) α}
    (h : ∀ v, Main m K c R s1 w1 r s2 w2 o e1 e2 ⊢ runs c (k v) Q) :
    Main m K c R s1 w1 r s2 w2 o e1 e2 ⊢ runs c (.op (.load (Memref.whole outB) (srcR off inb).toLoadRect hl) k) Q :=
  load_out m K c R s1 w1 r s2 w2 o e1 e2 h

/-! ## The parts -/

theorem part22 {Q : (PUnit) → sProp 𝕄} (a b d : BitVec 32)
    (h : Main m K c R 14 14 2 14 1 1 0 0 ⊢ Q ⟨⟩) :
    Main m K c R 14 14 2 13 0 0 0 0 ⊢ runs c (atBufs (k0_part22 (F := F)) c a b d) Q := by
  simp only [atBufs, k0_part22_eq_skeleton]; unfold k0_part22_skel
  simp only [Prog.lift, Prog.bind_op, Prog.bind_ret, Prog.pure_eq_ret]
  refine send_b m K c R (k0_dev35_eq c) ?_
  refine recv_b m K c R ?_
  refine take_b m K c R ?_
  refine skip_out m K c R fun _ => ?_
  refine store_c m K c R ?_
  exact runs_ret c h

theorem part23 {Q : (PUnit) → sProp 𝕄} (a b : BitVec 32)
    (h : Main m K c R 14 14 2 14 3 3 0 0 ⊢ Q ⟨⟩) :
    Main m K c R 14 14 2 14 1 1 0 0 ⊢ runs c (atBufs (k0_part23 (F := F)) c a b) Q := by
  simp only [atBufs, k0_part23_eq_skeleton]; unfold k0_part23_skel
  simp only [Prog.lift, Prog.bind_op, Prog.bind_ret, Prog.pure_eq_ret]
  refine recv_b m K c R ?_
  refine take_b m K c R ?_
  refine skip_out m K c R fun _ => ?_
  refine store_c m K c R ?_
  refine recv_b m K c R ?_
  refine take_b m K c R ?_
  refine skip_out m K c R fun _ => ?_
  refine store_c m K c R ?_
  exact runs_ret c h

theorem part24 {Q : (BitVec 32) → sProp 𝕄} (a b d : BitVec 32)
    (h : ∀ v, Main m K c R 14 14 2 14 5 4 0 0 ⊢ Q v) :
    Main m K c R 14 14 2 14 3 3 0 0 ⊢ runs c (atBufs (k0_part24 (F := F)) c a b d) Q := by
  simp only [atBufs, k0_part24_eq_skeleton]; unfold k0_part24_skel
  simp only [Prog.lift, Prog.bind_op, Prog.bind_ret, Prog.pure_eq_ret]
  refine recv_b m K c R ?_
  refine take_b m K c R ?_
  refine skip_out m K c R fun _ => ?_
  refine store_c m K c R ?_
  refine recv_b m K c R ?_
  exact runs_ret c (h _)

theorem part25 {Q : (PUnit) → sProp 𝕄} (a b d e : BitVec 32)
    (h : Main m K c R 14 14 2 14 6 6 0 0 ⊢ Q ⟨⟩) :
    Main m K c R 14 14 2 14 5 4 0 0 ⊢ runs c (atBufs (k0_part25 (F := F)) c a b d e) Q := by
  simp only [atBufs, k0_part25_eq_skeleton]; unfold k0_part25_skel
  simp only [Prog.lift, Prog.bind_op, Prog.bind_ret, Prog.pure_eq_ret]
  refine take_b m K c R ?_
  refine skip_out m K c R fun _ => ?_
  refine store_c m K c R ?_
  refine recv_b m K c R ?_
  refine take_b m K c R ?_
  refine skip_out m K c R fun _ => ?_
  refine store_c m K c R ?_
  exact runs_ret c h

theorem part26 {Q : (FVec F S64x256 .f32) → sProp 𝕄} (a b : BitVec 32)
    (h : Main m K c R 14 14 2 14 8 7 0 0 ⊢ Q (wide (tlF m c 1 1))) :
    Main m K c R 14 14 2 14 6 6 0 0 ⊢ runs c (atBufs (k0_part26 (F := F)) c a b) Q := by
  simp only [atBufs, k0_part26_eq_skeleton]; unfold k0_part26_skel
  simp only [Prog.lift, Prog.bind_op, Prog.bind_ret, Prog.pure_eq_ret]
  refine recv_b m K c R ?_
  refine take_b m K c R ?_
  refine skip_out m K c R fun _ => ?_
  refine store_c m K c R ?_
  refine recv_b m K c R ?_
  refine take_b m K c R ?_
  exact runs_ret c h

theorem part27 {Q : (BitVec 32) → sProp 𝕄} (a b d : BitVec 32)
    (h : ∀ v, Main m K c R 14 14 2 14 10 9 0 0 ⊢ Q v) :
    Main m K c R 14 14 2 14 8 7 0 0 ⊢ runs c (atBufs (k0_part27 (F := F)) c a b d (wide (tlF m c 1 1))) Q := by
  simp only [atBufs, k0_part27_eq_skeleton]; unfold k0_part27_skel
  simp only [Prog.lift, Prog.bind_op, Prog.bind_ret, Prog.pure_eq_ret]
  refine skip_out m K c R fun _ => ?_
  refine store_c' m K c R ?_
  refine recv_b m K c R ?_
  refine take_b m K c R ?_
  refine skip_out m K c R fun _ => ?_
  refine store_c' m K c R ?_
  refine recv_b m K c R ?_
  exact runs_ret c (h _)

theorem part28 {Q : (BitVec 32) → sProp 𝕄} (a b d : BitVec 32)
    (h : ∀ v, Main m K c R 14 14 2 14 11 11 0 0 ⊢ Q v) :
    Main m K c R 14 14 2 14 10 9 0 0 ⊢ runs c (atBufs (k0_part28 (F := F)) c a b d) Q := by
  simp only [atBufs, k0_part28_eq_skeleton]; unfold k0_part28_skel
  simp only [Prog.lift, Prog.bind_op, Prog.bind_ret, Prog.pure_eq_ret]
  refine take_b m K c R ?_
  refine skip_out m K c R fun _ => ?_
  refine store_c' m K c R ?_
  refine recv_b m K c R ?_
  refine take_b m K c R ?_
  refine skip_out m K c R fun _ => ?_
  refine store_c' m K c R ?_
  exact runs_ret c (h _)

theorem part29 {Q : (Σ' (v789 : BitVec 32), Vec F S1x64x256 .bf16) → sProp 𝕄} (a b d e : BitVec 32)
    (h : ∀ v, Main m K c R 14 14 2 14 13 12 0 0 ⊢ Q ⟨v, tlF m c 1 6⟩) :
    Main m K c R 14 14 2 14 11 11 0 0 ⊢ runs c (atBufs (k0_part29 (F := F)) c a b d e) Q := by
  simp only [atBufs, k0_part29_eq_skeleton]; unfold k0_part29_skel
  simp only [Prog.lift, Prog.bind_op, Prog.bind_ret, Prog.pure_eq_ret]
  refine recv_b m K c R ?_
  refine take_b m K c R ?_
  refine skip_out m K c R fun _ => ?_
  refine store_c' m K c R ?_
  refine recv_b m K c R ?_
  refine take_b m K c R ?_
  exact runs_ret c (h _)

theorem part30 {Q : (PUnit) → sProp 𝕄} (a b d : BitVec 32)
    (h : Main m K c R 14 14 2 14 14 14 1 0 ⊢ Q ⟨⟩) :
    Main m K c R 14 14 2 14 13 12 0 0 ⊢ runs c (atBufs (k0_part30 (F := F)) c a b d (tlF m c 1 6)) Q := by
  simp only [atBufs, k0_part30_eq_skeleton]; unfold k0_part30_skel
  simp only [Prog.lift, Prog.bind_op, Prog.bind_ret, Prog.pure_eq_ret]
  refine skip_out m K c R fun _ => ?_
  refine store_c' m K c R ?_
  refine recv_b m K c R ?_
  refine take_b m K c R ?_
  refine skip_out m K c R fun _ => ?_
  refine store_c' m K c R ?_
  refine sent_a m K c R ?_
  exact runs_ret c h

theorem part31 {Q : (PUnit) → sProp 𝕄}
    (h : Main m K c R 14 14 2 14 14 14 2 2 ⊢ Q ⟨⟩) :
    Main m K c R 14 14 2 14 14 14 1 0 ⊢ runs c (atBufs (k0_part31 (F := F)) c) Q := by
  simp only [atBufs, k0_part31_eq_skeleton]; unfold k0_part31_skel
  simp only [Prog.lift, Prog.bind_op, Prog.bind_ret, Prog.pure_eq_ret]
  refine sent_b m K c R ?_
  refine sent_a m K c R ?_
  refine sent_b m K c R ?_
  exact runs_ret c h

theorem part32 {Q : (PUnit) → sProp 𝕄}
    (h : Main m K c R 14 14 2 14 14 14 4 4 ⊢ Q ⟨⟩) :
    Main m K c R 14 14 2 14 14 14 2 2 ⊢ runs c (atBufs (k0_part32 (F := F)) c) Q := by
  simp only [atBufs, k0_part32_eq_skeleton]; unfold k0_part32_skel
  simp only [Prog.lift, Prog.bind_op, Prog.bind_ret, Prog.pure_eq_ret]
  refine sent_a m K c R ?_
  refine sent_b m K c R ?_
  refine sent_a m K c R ?_
  refine sent_b m K c R ?_
  exact runs_ret c h

theorem part33 {Q : (PUnit) → sProp 𝕄}
    (h : Main m K c R 14 14 2 14 14 14 6 6 ⊢ Q ⟨⟩) :
    Main m K c R 14 14 2 14 14 14 4 4 ⊢ runs c (atBufs (k0_part33 (F := F)) c) Q := by
  simp only [atBufs, k0_part33_eq_skeleton]; unfold k0_part33_skel
  simp only [Prog.lift, Prog.bind_op, Prog.bind_ret, Prog.pure_eq_ret]
  refine sent_a m K c R ?_
  refine sent_b m K c R ?_
  refine sent_a m K c R ?_
  refine sent_b m K c R ?_
  exact runs_ret c h

theorem part34 {Q : (PUnit) → sProp 𝕄}
    (h : Main m K c R 14 14 2 14 14 14 8 8 ⊢ Q ⟨⟩) :
    Main m K c R 14 14 2 14 14 14 6 6 ⊢ runs c (atBufs (k0_part34 (F := F)) c) Q := by
  simp only [atBufs, k0_part34_eq_skeleton]; unfold k0_part34_skel
  simp only [Prog.lift, Prog.bind_op, Prog.bind_ret, Prog.pure_eq_ret]
  refine sent_a m K c R ?_
  refine sent_b m K c R ?_
  refine sent_a m K c R ?_
  refine sent_b m K c R ?_
  exact runs_ret c h

theorem part35 {Q : (PUnit) → sProp 𝕄}
    (h : Main m K c R 14 14 2 14 14 14 10 10 ⊢ Q ⟨⟩) :
    Main m K c R 14 14 2 14 14 14 8 8 ⊢ runs c (atBufs (k0_part35 (F := F)) c) Q := by
  simp only [atBufs, k0_part35_eq_skeleton]; unfold k0_part35_skel
  simp only [Prog.lift, Prog.bind_op, Prog.bind_ret, Prog.pure_eq_ret]
  refine sent_a m K c R ?_
  refine sent_b m K c R ?_
  refine sent_a m K c R ?_
  refine sent_b m K c R ?_
  exact runs_ret c h

theorem part36 {Q : (PUnit) → sProp 𝕄}
    (h : Main m K c R 14 14 2 14 14 14 12 12 ⊢ Q ⟨⟩) :
    Main m K c R 14 14 2 14 14 14 10 10 ⊢ runs c (atBufs (k0_part36 (F := F)) c) Q := by
  simp only [atBufs, k0_part36_eq_skeleton]; unfold k0_part36_skel
  simp only [Prog.lift, Prog.bind_op, Prog.bind_ret, Prog.pure_eq_ret]
  refine sent_a m K c R ?_
  refine sent_b m K c R ?_
  refine sent_a m K c R ?_
  refine sent_b m K c R ?_
  exact runs_ret c h

/-- The whole run up to its last four waits. -/
theorem part37 {Q : Dev nD → sProp 𝕄} (h : Main m K c R 14 14 2 14 14 14 13 12 ⊢ Q c) :
    Early m K c R 7 False ⊢ runs c (atBufs (k0_part37 (F := F))) Q := by
  simp only [atBufs, k0_part37_eq_skeleton]; unfold k0_part37_skel
  refine runs_bind c (part1 m K c R fun _ _ => ?_)
  refine runs_bind c (part2 m K c R _ _ ?_)
  refine runs_bind c (part3 m K c R fun _ => ?_)
  refine runs_bind c (part4 m K c R _ fun _ => ?_)
  refine runs_bind c (part5 m K c R _ _ fun _ => ?_)
  refine runs_bind c (part6 m K c R _ fun _ => ?_)
  refine runs_bind c (part7 m K c R _ fun _ => ?_)
  refine runs_bind c (part8 m K c R _ _ fun _ => ?_)
  refine runs_bind c (part9 m K c R _ _ _ fun _ => ?_)
  refine runs_bind c (part10 m K c R _ _ _ ?_)
  refine runs_bind c (part11 m K c R _ _ ?_)
  refine runs_bind c (part12 m K c R _ _ ?_)
  refine runs_bind c (part13 m K c R _ fun _ => ?_)
  refine runs_bind c (part14 m K c R _ _ fun _ => ?_)
  refine runs_bind c (part15 m K c R _ _ _ fun _ => ?_)
  refine runs_bind c (part16 m K c R _ _ fun _ => ?_)
  refine runs_bind c (part17 m K c R _ _ _ _ ?_)
  refine runs_bind c (part18 m K c R _ _ ?_)
  refine runs_bind c (part19 m K c R _ fun _ => ?_)
  refine runs_bind c (part20 m K c R _ fun _ => ?_)
  refine runs_bind c (part21 m K c R _ _ fun _ => ?_)
  refine runs_bind c (part22 m K c R _ _ _ ?_)
  refine runs_bind c (part23 m K c R _ _ ?_)
  refine runs_bind c (part24 m K c R _ _ _ fun _ => ?_)
  refine runs_bind c (part25 m K c R _ _ _ _ ?_)
  refine runs_bind c (part26 m K c R _ _ ?_)
  refine runs_bind c (part27 m K c R _ _ _ fun _ => ?_)
  refine runs_bind c (part28 m K c R _ _ _ fun _ => ?_)
  refine runs_bind c (part29 m K c R _ _ _ _ fun _ => ?_)
  refine runs_bind c (part30 m K c R _ _ _ ?_)
  refine runs_bind c (part31 m K c R ?_)
  refine runs_bind c (part32 m K c R ?_)
  refine runs_bind c (part33 m K c R ?_)
  refine runs_bind c (part34 m K c R ?_)
  refine runs_bind c (part35 m K c R ?_)
  refine runs_bind c (part36 m K c R ?_)
  simp only [Prog.lift, Prog.bind_op, Prog.bind_ret, Prog.pure_eq_ret]
  refine sent_a m K c R ?_
  exact runs_ret c h

/-- The kernel's whole body. -/
theorem whole_body {Q : PUnit → sProp 𝕄} (h : Main m K c R 14 14 2 14 14 14 14 14 ⊢ Q ⟨⟩) :
    Early m K c R 7 False ⊢ runs c (atBufs (cc0_body (F := F))) Q := by
  simp only [atBufs, cc0_body_eq_skeleton]; unfold cc0_body_skel
  refine runs_bind c (part37 m K c R ?_)
  simp only [Prog.lift, Prog.bind_op, Prog.bind_ret, Prog.pure_eq_ret]
  refine sent_b m K c R ?_
  refine sent_a m K c R ?_
  refine sent_b m K c R ?_
  exact runs_ret c h

end Cert.KernelIdeal.Proto

end
-- ==== Proof.Buffers.lean ====
/-
The scratch buffers and the semaphores of a device at the two ends of the kernel: whole before it, taken apart while it
runs, put together again after it.
-/
module

public import proofs.«01_k».proof.Proof.BodyC

@[expose] public section

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ UU ℕ

variable (m : (ℓ : Loc nD τ sig) → Buf (Elt F) ℓ) (K : Cell → ℕ) (c : Dev nD)

/-! ## The transfer semaphores of a device -/

omit [FloatOps F] in
/-- A run of numbers cut in two. -/
theorem bigSep_cut {a b c : ℕ} (hab : a ≤ b) (hbc : b ≤ c) (A : ℕ → sProp 𝕄) :
    bigSep (Finset.Ico a c) A = iprop(bigSep (Finset.Ico a b) A ∗ bigSep (Finset.Ico b c) A) := by
  rw [show Finset.Ico a c = Finset.Ico a b ∪ Finset.Ico b c by ext i; simp only [Finset.mem_union, Finset.mem_Ico]; omega]
  exact bigSep_union (Finset.disjoint_left.mpr fun i hi hi' => by have := Finset.mem_Ico.mp hi; have := Finset.mem_Ico.mp hi'; omega)

omit [FloatOps F] in
/-- Both halves at the eight distances: the fourteen pieces, and distance 0, which carries nothing. -/
theorem bigSep_sixteen (Φ : ℕ → ℕ → sProp 𝕄) :
    bigSep (Finset.range 16) (fun i => Φ (i / 8) (i % 8))
      = iprop((bigSep (Finset.range 14) fun i => Φ (i / 7) (i % 7 + 1)) ∗ Φ 0 0 ∗ Φ 1 0) := by
  rw [show Finset.range 16 = {1, 2, 3, 4, 5, 6, 7, 9, 10, 11, 12, 13, 14, 15} ∪ ({0, 8} : Finset ℕ) by decide, bigSep_union (by decide),
    bigSep_eq_bigSepL_of_eq (S := ({0, 8} : Finset ℕ)) [0, 8] (by decide) (by decide),
    bigSep_eq_bigSepL_of_eq (S := ({1, 2, 3, 4, 5, 6, 7, 9, 10, 11, 12, 13, 14, 15} : Finset ℕ)) [1, 2, 3, 4, 5, 6, 7, 9, 10, 11, 12, 13, 14, 15] (by decide) (by decide),
    bigSep_eq_bigSepL_of_eq (S := Finset.range 14) [0, 1, 2, 3, 4, 5, 6, 7, 8, 9, 10, 11, 12, 13] (by decide) (by decide)]
  rfl

omit [FloatOps F] in
theorem bigSep_shift (Φ : ℕ → ℕ → ℕ → sProp 𝕄) (k : ℕ) :
    bigSep (Finset.Ico (0 + 16 * k) (16 + 16 * k)) (fun i => Φ (i / 16) (i % 16 / 8) (i % 8)) = bigSep (Finset.range 16) fun i => Φ k (i / 8) (i % 8) := by
  rw [← Finset.map_add_right_Ico 0 16 (16 * k), bigSep_map, Finset.range_eq_Ico]
  refine bigSep_congr fun i hi => ?_
  have := Finset.mem_Ico.mp hi
  show Φ ((i + 16 * k) / 16) ((i + 16 * k) % 16 / 8) ((i + 16 * k) % 8) = _
  rw [show (i + 16 * k) / 16 = k by omega, show (i + 16 * k) % 16 / 8 = i / 8 by omega, show (i + 16 * k) % 8 = i % 8 by omega]

/-- What holds of the fourteen pieces of a kind and what holds at distance 0. -/
def kindP (Φ : ℕ → ℕ → ℕ → sProp (MT nD τ sig Unit (Elt F) ℕ UU ℕ)) (k : ℕ) : sProp 𝕄 :=
  iprop((bigSep (Finset.range 14) fun i => Φ k (i / 7) (i % 7 + 1)) ∗ Φ k 0 0 ∗ Φ k 1 0)

omit [FloatOps F] in
theorem kind_eq (Φ : ℕ → ℕ → ℕ → sProp 𝕄) (k : ℕ) :
    bigSep (Finset.Ico (0 + 16 * k) (16 + 16 * k)) (fun i => Φ (i / 16) (i % 16 / 8) (i % 8)) = kindP Φ k :=
  (bigSep_shift Φ k).trans (bigSep_sixteen (Φ k))

omit [FloatOps F] in
/-- The 64 transfer semaphores by kind, half and distance. -/
theorem cells_eq (Φ : GSem nD τ sig → sProp (MT nD τ sig Unit (Elt F) ℕ UU ℕ)) :
    (bigSep Finset.univ fun i : Fin 64 => Φ ((c : Thread nD τ), osem i))
      = iprop(kindP (fun k h d => Φ (xCell c k h d)) 0 ∗ kindP (fun k h d => Φ (xCell c k h d)) 1 ∗ kindP (fun k h d => Φ (xCell c k h d)) 2
        ∗ kindP (fun k h d => Φ (xCell c k h d)) 3) := by
  let Ψ (k h d : ℕ) : sProp 𝕄 := Φ (xCell c k h d)
  have e (i : Fin 64) : Φ ((c : Thread nD τ), osem i) = (fun n : ℕ => Φ (xCell c (n / 16) (n % 16 / 8) (n % 8))) (Fin.valEmbedding i) := by
    have hi : i.val < 64 := i.isLt
    refine congrArg (fun q => Φ ((c : Thread nD τ), SemLoc.dma q)) (Fin.ext ?_)
    show (6 + i.val) % 70 = (dq (i.val / 16) (i.val % 16 / 8) (i.val % 8)).val
    rw [dq_val _ _ _ (by omega) (by omega) (by omega)]
    omega
  rw [bigSep_congr fun i _ => e i, ← bigSep_map Fin.valEmbedding (Φ := fun n : ℕ => Φ (xCell c (n / 16) (n % 16 / 8) (n % 8))), Fin.map_valEmbedding_univ,
    Nat.Iio_eq_range, Finset.range_eq_Ico,
    bigSep_cut (a := 0) (b := 16) (c := 64) (by decide) (by decide), bigSep_cut (a := 16) (b := 32) (c := 64) (by decide) (by decide),
    bigSep_cut (a := 32) (b := 48) (c := 64) (by decide) (by decide)]
  exact congr (congrArg _ (kind_eq Ψ 0)) (congr (congrArg _ (kind_eq Ψ 1)) (congr (congrArg _ (kind_eq Ψ 2)) (kind_eq Ψ 3)))

/-- The semaphores at distance 0, which nothing raises, back at zero. -/
def zeros : sProp 𝕄 :=
  iprop((semVal (xCell c 0 0 0) 0 ∗ semVal (xCell c 0 1 0) 0) ∗ (semVal (xCell c 1 0 0) 0 ∗ semVal (xCell c 1 1 0) 0)
    ∗ (semVal (xCell c 2 0 0) 0 ∗ semVal (xCell c 2 1 0) 0) ∗ (semVal (xCell c 3 0 0) 0 ∗ semVal (xCell c 3 1 0) 0))

theorem close_zero {k : ℕ} (hk : k < 4) : iprop(Ctx m K ∗ atPos ER (xCell c k 0 0) 0 ∅ 0 ∗ atPos ER (xCell c k 1 0) 0 ∅ 0)
    ⊢ |={Set.univ}=> iprop(semVal (xCell c k 0 0) 0 ∗ semVal (xCell c k 1 0) 0) := by
  iintro ⟨#HC, H0, H1⟩
  imod (Rounds.cell_close ER (exRd m) (Set.mem_univ (K (c, some (xi k 0 0)))) (fun h => h) (R := 0) (duties_x0 m c hk (by decide : 0 < 2))) $$ [H0] with Hz0
  · isplitr; · iapply (ctx_inv_x m K c hk (by decide : 0 < 2) (by decide : 0 < 8)); iexact HC
    iexact H0
  imod (Rounds.cell_close ER (exRd m) (Set.mem_univ (K (c, some (xi k 1 0)))) (fun h => h) (R := 0) (duties_x0 m c hk (by decide : 1 < 2))) $$ [H1] with Hz1
  · isplitr; · iapply (ctx_inv_x m K c hk (by decide : 1 < 2) (by decide : 0 < 8)); iexact HC
    iexact H1
  imodintro
  isplitl [Hz0] <;> iassumption

/-! ## The landing buffers -/

/-- The slots nothing lands in. -/
def slot00 : Finset S8x64x512.Idx := Finset.univ.filter fun i => (i 0).val = 0
theorem mem_slot00 {i : S8x64x512.Idx} : i ∈ slot00 ↔ (i 0).val = 0 := by simp [slot00]

omit [FloatOps F] in
theorem slots_cover (x : S8x64x512.Idx) : x ∈ slot00 ∨ ∃ i ∈ Finset.range 14, x ∈ slot (i % 7 + 1) (i / 7) := by
  have h0 : (x 0).val < 8 := (x 0).isLt
  have h2 : (x 2).val < 512 := (x 2).isLt
  rw [mem_slot00]
  by_cases h : (x 0).val = 0
  · exact .inl h
  · refine .inr ⟨7 * ((x 2).val / 256) + ((x 0).val - 1), Finset.mem_range.mpr (by omega), ?_⟩
    rw [mem_slot]
    omega

omit [FloatOps F] in
theorem slots_none (x : S8x64x512.Idx) (hx : x ∈ slot00) (i : ℕ) (hi : i ∈ Finset.range 14) : x ∉ slot (i % 7 + 1) (i / 7) := by
  intro hx'
  have h1 := mem_slot00.mp hx
  have h2 := (mem_slot.mp hx').1
  omega

omit [FloatOps F] in
theorem slots_one (i : ℕ) (hi : i ∈ Finset.range 14) (j : ℕ) (hj : j ∈ Finset.range 14) (x : S8x64x512.Idx)
    (hx : x ∈ slot (i % 7 + 1) (i / 7)) (hx' : x ∈ slot (j % 7 + 1) (j / 7)) : i = j := by
  have h1 := mem_slot.mp hx
  have h2 := mem_slot.mp hx'
  have := Finset.mem_range.mp hi
  have := Finset.mem_range.mp hj
  omega

/-- What neither exchange uses of the landing buffers. -/
def gap1 : sProp 𝕄 := iprop(∃ f : Vec F S8x64x512 .bf16, (c : Thread nD τ).loc stgB ↦[slot00]{fullShare} f)
def gap2 : sProp 𝕄 := iprop(∃ f : Vec F S8x64x512 .bf16, (c : Thread nD τ).loc st2B ↦[slot00]{fullShare} f)

omit [FloatOps F] in
theorem stg_parts (f : Vec F S8x64x512 .bf16) :
    (((c : Thread nD τ).loc stgB ↦{fullShare} f) : sProp 𝕄)
      = iprop(((c : Thread nD τ).loc stgB ↦[slot00]{fullShare} f) ∗ bigSep (Finset.range 14) fun i => slot1 c (i % 7 + 1) (i / 7) f) :=
  pointsTo_parts (ℓ := (c : Thread nD τ).loc stgB) slot00 (Finset.range 14) (fun i => slot (i % 7 + 1) (i / 7)) slots_cover slots_none slots_one

omit [FloatOps F] in
theorem st2_parts (f : Vec F S8x64x512 .bf16) :
    (((c : Thread nD τ).loc st2B ↦{fullShare} f) : sProp 𝕄)
      = iprop(((c : Thread nD τ).loc st2B ↦[slot00]{fullShare} f) ∗ bigSep (Finset.range 14) fun i => slot2 c (i % 7 + 1) (i / 7) f) :=
  pointsTo_parts (ℓ := (c : Thread nD τ).loc st2B) slot00 (Finset.range 14) (fun i => slot (i % 7 + 1) (i / 7)) slots_cover slots_none slots_one

omit [FloatOps F] in
theorem some_slot1 (f : Vec F S8x64x512 .bf16) : (bigSep (Finset.range 14) fun i => slot1 (F := F) c (i % 7 + 1) (i / 7) f)
    ⊢ bigSep (Finset.Icc 1 7) fun e => iprop((∃ f, slot1 (F := F) c e 0 f) ∗ ∃ f, slot1 c e 1 f) := by
  rw [← bigSep_pairs fun h d => iprop(∃ f, slot1 (F := F) c d h f)]
  refine bigSep_weaken _ fun i => ?_
  iintro H; iexists f; iexact H

omit [FloatOps F] in
theorem some_slot2 (f : Vec F S8x64x512 .bf16) : (bigSep (Finset.range 14) fun i => slot2 (F := F) c (i % 7 + 1) (i / 7) f)
    ⊢ bigSep (Finset.Icc 1 7) fun e => iprop((∃ f, slot2 (F := F) c e 0 f) ∗ ∃ f, slot2 c e 1 f) := by
  rw [← bigSep_pairs fun h d => iprop(∃ f, slot2 (F := F) c d h f)]
  refine bigSep_weaken _ fun i => ?_
  iintro H; iexists f; iexact H

omit [FloatOps F] in
theorem landing_apart : iprop((∃ f : Vec F S8x64x512 .bf16, (c : Thread nD τ).loc stgB ↦{fullShare} f) ∗ (∃ f : Vec F S8x64x512 .bf16, (c : Thread nD τ).loc st2B ↦{fullShare} f))
    ⊢ iprop(gap1 (F := F) c ∗ gap2 (F := F) c ∗ bigSep (Finset.Icc 1 7) (slots (F := F) c)) := by
  iintro ⟨⟨%f, H1⟩, ⟨%g, H2⟩⟩
  ihave H1 := (Entails.of_eq (stg_parts c f)) $$ H1
  icases H1 with ⟨Hg1, H1⟩
  ihave H2 := (Entails.of_eq (st2_parts c g)) $$ H2
  icases H2 with ⟨Hg2, H2⟩
  ihave H1 := (some_slot1 c f) $$ H1
  ihave H2 := (some_slot2 c g) $$ H2
  unfold gap1 gap2 slots
  isplitl [Hg1]; · iexists f; iexact Hg1
  isplitl [Hg2]; · iexists g; iexact Hg2
  iapply (Entails.of_eq (bigSep_sep' (Finset.Icc 1 7) (fun e => iprop((∃ f, slot1 (F := F) c e 0 f) ∗ ∃ f, slot1 c e 1 f))
    fun e => iprop((∃ f, slot2 (F := F) c e 0 f) ∗ ∃ f, slot2 c e 1 f)).symm)
  isplitl [H1] <;> iassumption

omit [FloatOps F] in
theorem slot1_congr {f g : Vec F S8x64x512 .bf16} (h : ∀ x : S8x64x512.Idx, ¬ (x 0).val = 0 → f x = g x) :
    (bigSep (Finset.range 14) fun i => slot1 (F := F) c (i % 7 + 1) (i / 7) f) ⊢ bigSep (Finset.range 14) fun i => slot1 (F := F) c (i % 7 + 1) (i / 7) g :=
  bigSep_weaken _ fun i => Entails.of_eq (pointsTo_congr fun x hx => h x (by have := (mem_slot.mp hx).1; omega))

omit [FloatOps F] in
theorem slot2_congr {f g : Vec F S8x64x512 .bf16} (h : ∀ x : S8x64x512.Idx, ¬ (x 0).val = 0 → f x = g x) :
    (bigSep (Finset.range 14) fun i => slot2 (F := F) c (i % 7 + 1) (i / 7) f) ⊢ bigSep (Finset.range 14) fun i => slot2 (F := F) c (i % 7 + 1) (i / 7) g :=
  bigSep_weaken _ fun i => Entails.of_eq (pointsTo_congr fun x hx => h x (by have := (mem_slot.mp hx).1; omega))

omit [FloatOps F] in
/-- Contents `f` in the unused slots and `g` in the others. -/
theorem stg_together (g : Vec F S8x64x512 .bf16) : iprop(gap1 (F := F) c ∗ bigSep (Finset.range 14) fun i => slot1 (F := F) c (i % 7 + 1) (i / 7) g)
    ⊢ ∃ f : Vec F S8x64x512 .bf16, (c : Thread nD τ).loc stgB ↦{fullShare} f := by
  unfold gap1
  iintro ⟨⟨%f, H⟩, Hs⟩
  iexists (fun i => if (i 0).val = 0 then f i else g i)
  iapply (Entails.of_eq (stg_parts c _).symm)
  isplitl [H]
  · iapply (Entails.of_eq (pointsTo_congr fun i hi => (if_pos (mem_slot00.mp hi)).symm)); iexact H
  · iapply (slot1_congr c (f := g) (g := fun i => if (i 0).val = 0 then f i else g i) fun x hx => (if_neg hx).symm)
    iexact Hs

omit [FloatOps F] in
theorem st2_together (g : Vec F S8x64x512 .bf16) : iprop(gap2 (F := F) c ∗ bigSep (Finset.range 14) fun i => slot2 (F := F) c (i % 7 + 1) (i / 7) g)
    ⊢ ∃ f : Vec F S8x64x512 .bf16, (c : Thread nD τ).loc st2B ↦{fullShare} f := by
  unfold gap2
  iintro ⟨⟨%f, H⟩, Hs⟩
  iexists (fun i => if (i 0).val = 0 then f i else g i)
  iapply (Entails.of_eq (st2_parts c _).symm)
  isplitl [H]
  · iapply (Entails.of_eq (pointsTo_congr fun i hi => (if_pos (mem_slot00.mp hi)).symm)); iexact H
  · iapply (slot2_congr c (f := g) (g := fun i => if (i 0).val = 0 then f i else g i) fun x hx => (if_neg hx).symm)
    iexact Hs

/-! ## The rounded rows -/

omit [FloatOps F] in
theorem halves (f : Vec F S64x512 .bf16) : (((c : Thread nD τ).loc rbuf ↦{fullShare} f) : sProp 𝕄)
    = iprop(halfP c 0 fullShare f ∗ halfP c 1 fullShare f) := by
  refine (pointsTo_parts (ℓ := (c : Thread nD τ).loc rbuf) (half 0) {1} half (fun x => ?_) (fun x hx i hi hx' => ?_) (fun i hi j hj _ _ _ => ?_)).trans ?_
  · have h1 : (x 1).val < 512 := (x 1).isLt
    rcases Nat.lt_or_ge (x 1).val 256 with h | h
    · exact .inl (mem_half.mpr (by omega))
    · exact .inr ⟨1, Finset.mem_singleton_self 1, mem_half.mpr (by omega)⟩
  · rw [Finset.mem_singleton.mp hi] at hx'
    have := mem_half.mp hx
    have := mem_half.mp hx'
    omega
  · rw [Finset.mem_singleton.mp hi, Finset.mem_singleton.mp hj]
  · rw [bigSep_singleton]; rfl

theorem rows_apart : (∃ f : Vec F S64x512 .bf16, ((c : Thread nD τ).loc rbuf ↦{fullShare} f)) ⊢ iprop(rows m c 0 0 ∗ rows m c 0 1) := by
  unfold rows
  rw [if_neg (Nat.lt_irrefl 0), if_neg (by decide : ¬ 1 < 0)]
  iintro ⟨%f, H⟩
  ihave H := (Entails.of_eq (halves c f)) $$ H
  icases H with ⟨H0, H1⟩
  isplitl [H0]; · iexists f; iexact H0
  iexists f; iexact H1

/-- A half and the shares it was sent with. -/
theorem half_together {r : ℕ} (hr : r < 2) : iprop(halfP c r (shareDrop fullShare 7) (rbF m c) ∗ shares m c (r + 1) (7 * r)) ⊢ halfP c r fullShare (rbF m c) := by
  rw [← share_list m c r hr]
  unfold halfP
  exact (Transfers.pointsTo_toks_range (Val := Elt F) (ℓ := (c : Thread nD τ).loc rbuf) (S := half r) (f := rbF m c) fullShare 7).2

theorem rows_together : iprop((rows m c 2 0 ∗ rows m c 2 1) ∗ bigSep (Finset.range 14) fun i => xPay m c 2 (i / 7) (i % 7 + 1))
    ⊢ ∃ f : Vec F S64x512 .bf16, ((c : Thread nD τ).loc rbuf ↦{fullShare} f) := by
  unfold rows
  rw [if_pos (by decide), if_pos (by decide), Finset.range_eq_Ico, bigSep_cut (a := 0) (b := 7) (c := 14) (by decide) (by decide)]
  iintro ⟨⟨H0, H1⟩, ⟨S0, S1⟩⟩
  iexists (rbF m c)
  iapply (Entails.of_eq (halves c (rbF m c)).symm)
  isplitl [H0 S0]
  · iapply (half_together m c (r := 0) (by decide))
    unfold shares
    isplitl [H0] <;> iassumption
  · iapply (half_together m c (r := 1) (by decide))
    unfold shares
    isplitl [H1] <;> iassumption

/-! ## The pieces when all is done -/

theorem outs_end (k : ℕ) : outs m c k 14 14 = iprop((bigSep (Finset.range 14) fun i => semVal (xCell c k (i / 7) (i % 7 + 1)) 0)
    ∗ bigSep (Finset.range 14) fun i => xPay m c k (i / 7) (i % 7 + 1)) := by
  unfold outs
  rw [← bigSep_sep']
  exact bigSep_congr fun i hi => by rw [if_pos (Finset.mem_range.mp hi)]; rfl

theorem ins_end (k : ℕ) : ins m c k 14 = iprop((bigSep (Finset.range 14) fun i => semVal (xCell c k (i / 7) (i % 7 + 1)) 0)
    ∗ bigSep (Finset.range 14) fun i => xPay m c k (i / 7) (i % 7 + 1)) := by
  unfold ins
  rw [← bigSep_sep']
  exact bigSep_congr fun i hi => by rw [if_pos (Finset.mem_range.mp hi)]; rfl

theorem ins_start (k : ℕ) : iprop((bigSep (Finset.range 14) fun i => cred (tallyAt (xCell c k (i / 7) (i % 7 + 1)) () NN))
    ∗ bigSep (Finset.range 14) fun i => atPos ER (xCell c k (i / 7) (i % 7 + 1)) 0 ∅ 0) ⊢ ins m c k 0 := by
  unfold ins
  rw [← bigSep_sep']
  refine bigSep_weaken _ fun i => ?_
  rw [if_neg (Nat.not_lt_zero i)]
  unfold pending
  iintro H; iexact H

theorem tks_start (k : ℕ) : iprop((bigSep (Finset.range 14) fun i => dutyTok ER (xCell c k (i / 7) (i % 7 + 1)) 0 0)
    ∗ (bigSep (Finset.range 14) fun i => dutyTok ER (xCell (nbr c (i % 7 + 1)) (k + 1) (i / 7) (i % 7 + 1)) 0 0)
    ∗ bigSep (Finset.range 14) fun i => atPos ER (xCell c k (i / 7) (i % 7 + 1)) 0 ∅ 0) ⊢ bigSep (Finset.range 14) (tks (F := F) c k) := by
  rw [← bigSep_sep', ← bigSep_sep']
  refine bigSep_weaken _ fun i => ?_
  unfold tks
  iintro H; iexact H

/-- The result is complete when all pieces are written. -/
theorem written_all {f : Vec F S512x512 .f32} (h : Written m c 2 14 f) : f = outF m c := by
  funext x
  have hc := dev_lt c
  have h0 : (x 0).val < 512 := (x 0).isLt
  have h1 : (x 1).val < 512 := (x 1).isLt
  by_cases e : (x 0).val / 64 = c.val
  · exact h.1 ((x 1).val / 256) (by omega) x (mem_chunk.mpr ⟨e, rfl⟩)
  · refine h.2 (7 * ((x 1).val / 256) + (c.val + 7 - (x 0).val / 64) % 8) (by omega) x (mem_chunk.mpr ?_)
    rw [nbr_val]
    omega

theorem written_none (f : Vec F S512x512 .f32) : Written m c 0 0 f :=
  ⟨fun h hh => absurd hh (Nat.not_lt_zero h), fun k hk => absurd hk (Nat.not_lt_zero k)⟩

end Cert.KernelIdeal.Proto

end
-- ==== Proof.Body.lean ====
/-
The kernel's body between what the pipeline hands it and what it hands back.
-/
module

public import proofs.«01_k».proof.Proof.Buffers

@[expose] public section

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareDrop shareTokN)

variable {F : FTy → Type} [FloatOps F]

local notation "𝕄" => MT nD τ sig Unit (Elt F) ℕ UU ℕ

variable (m : (ℓ : Loc nD τ sig) → Buf (Elt F) ℓ) (ρ : Dev nD → PrngReg) (K : Cell → ℕ) (c : Dev nD)

/-! ## What a device starts with -/

/-- The tokens of the duties a device pays: its signal at every other device's barrier, its own sending semaphores, the
    receiving semaphores of the devices it sends to. -/
def payToks : sProp 𝕄 :=
  iprop((bigSep (Finset.Icc 1 7) fun e => dutyTok ER (barCell (nbr c (8 - e))) 0 e)
    ∗ (bigSep (Finset.range 14) fun i => dutyTok ER (xCell c 0 (i / 7) (i % 7 + 1)) 0 0)
    ∗ (bigSep (Finset.range 14) fun i => dutyTok ER (xCell (nbr c (i % 7 + 1)) 1 (i / 7) (i % 7 + 1)) 0 0)
    ∗ (bigSep (Finset.range 14) fun i => dutyTok ER (xCell c 2 (i / 7) (i % 7 + 1)) 0 0)
    ∗ bigSep (Finset.range 14) fun i => dutyTok ER (xCell (nbr c (i % 7 + 1)) 3 (i / 7) (i % 7 + 1)) 0 0)

/-- Its places at its own semaphores, and those tokens. -/
def linear : sProp 𝕄 :=
  iprop((atPos ER (barCell c) 0 ∅ 0 ∗ bigSep Finset.univ fun i : Fin 64 => atPos ER ((c : Thread nD τ), osem i) 0 ∅ 0) ∗ payToks (F := F) c)

/-- The invariants of all cells, and that all are at their first round. -/
def records : sProp 𝕄 :=
  iprop((bigSep Finset.univ fun x : Cell => cellInv ER (exRd m) (K x) (cellAt x)) ∗ bigSep Finset.univ fun x : Cell => reached ER (cellAt x) 0)

instance records_persistent : BI.Persistent (records (F := F) m K) := by unfold records; infer_instance

/-- The credits it waits with: seven signals, and the pieces that reach it in each exchange. -/
def credits : sProp 𝕄 :=
  iprop(cred (tallyAt (barCell c) () 7) ∗ (bigSep (Finset.range 14) fun i => cred (tallyAt (xCell c 1 (i / 7) (i % 7 + 1)) () NN))
    ∗ bigSep (Finset.range 14) fun i => cred (tallyAt (xCell c 3 (i / 7) (i % 7 + 1)) () NN))

def start : sProp 𝕄 := iprop((∃ K, records m K ∗ linear (F := F) c) ∗ credits (F := F) c ∗ levAts L lv)

def Φ₀ : sProp 𝕄 := iprop(start m c ∗ Pipeline.scopedRest cfg0.spec c)
def Φ₁ : sProp 𝕄 := iprop(semVal (barCell c) 0 ∗ (bigSep Finset.univ fun i : Fin 64 => semVal ((c : Thread nD τ), osem i) 0) ∗ Pipeline.scopedRest cfg0.spec c)

/-- What it owes at the start: every signal and every piece of both exchanges. -/
def O₀ (c : Dev nD) : CellTallies nD τ sig Unit := Owe c 7 0 0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xS m c
    | ⟨1, _⟩ => rwS m c
    | ⟨2, _⟩ => idS m c
    | ⟨3, _⟩ => ewS m c
    | ⟨4, _⟩ => swS m c
    | ⟨5, _⟩ => outF m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at the contents `X`. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## Into the first state -/

/-- What stays aside while the body runs. -/
def aside : sProp 𝕄 := iprop(zeros (F := F) c ∗ gap1 (F := F) c ∗ gap2 (F := F) c)

theorem early_intro (W : Waits sig Unit) (f : Vec F S512x512 .f32) :
    iprop(Φ₀ m c ∗ owes (c : Thread nD τ) (O₀ c) W ∗ inp m c ∗ ((c : Thread nD τ).loc outB ↦{fullShare} f))
      ⊢ |={Set.univ}=> ∃ K, Early m K c (aside c) 7 False := by
  unfold Φ₀ start linear payToks credits
  rw [scopedRest0_eq, cells_eq c fun g => atPos ER g 0 ∅ 0]
  unfold kindP
  iintro ⟨⟨⟨⟨%K, Hrec, ⟨HaB, ⟨Ha0, Hz00, Hz01⟩, ⟨Ha1, Hz10, Hz11⟩, ⟨Ha2, Hz20, Hz21⟩, ⟨Ha3, Hz30, Hz31⟩⟩, HtB, Ht0, Ht1, Ht2, Ht3⟩, ⟨HcB, Hc1, Hc3⟩, Hlev⟩,
    ⟨%fp, Hp⟩, Hs1, Hr, Hs2⟩, HO, HI, Hout⟩
  ihave HC := (show iprop(records m K ∗ levAts L lv) ⊢ Ctx m K from by
    unfold records Ctx
    iintro ⟨⟨H1, H2⟩, H3⟩
    isplitl [H1]; · iexact H1
    isplitl [H2] <;> iassumption) $$ [Hrec Hlev]
  · isplitl [Hrec] <;> iassumption
  icases HC with #HC
  imod (close_zero m K c (k := 0) (by decide)) $$ [Hz00 Hz01] with Hz0
  · isplitr; · iexact HC
    isplitl [Hz00] <;> iassumption
  imod (close_zero m K c (k := 1) (by decide)) $$ [Hz10 Hz11] with Hz1
  · isplitr; · iexact HC
    isplitl [Hz10] <;> iassumption
  imod (close_zero m K c (k := 2) (by decide)) $$ [Hz20 Hz21] with Hz2
  · isplitr; · iexact HC
    isplitl [Hz20] <;> iassumption
  imod (close_zero m K c (k := 3) (by decide)) $$ [Hz30 Hz31] with Hz3
  · isplitr; · iexact HC
    isplitl [Hz30] <;> iassumption
  ihave Hl := (landing_apart (F := F) c) $$ [Hs1 Hs2]
  · isplitl [Hs1] <;> iassumption
  icases Hl with ⟨Hg1, Hg2, Hsl⟩
  ihave Hr := (rows_apart m c) $$ Hr
  imodintro
  iexists K
  unfold Early aside zeros
  isplitr; · iexact HC
  isplitl [HI]; · iexact HI
  isplitl [HO]; · iexists W; iexact HO
  isplitl [HtB Hsl]
  · iapply (Entails.of_eq (bigSep_sep' (Finset.Icc 1 7) (fun e => dutyTok ER (barCell (nbr c (8 - e))) 0 e) (slots (F := F) c)).symm)
    isplitl [HtB] <;> iassumption
  isplitl [HcB HaB]; · isplitl [HcB] <;> iassumption
  isplitl [Hp]
  · iexists fp
    isplitr; · ipureintro; exact False.elim
    iexact Hp
  isplitl [Ht0 Ht1 Ha0]
  · iapply (tks_start (F := F) c 0)
    isplitl [Ht0]; · iexact Ht0
    isplitl [Ht1] <;> iassumption
  isplitl [Ht2 Ht3 Ha2]
  · iapply (tks_start (F := F) c 2)
    isplitl [Ht2]; · iexact Ht2
    isplitl [Ht3] <;> iassumption
  isplitl [Hc1 Ha1]
  · iapply (ins_start m c 1)
    isplitl [Hc1] <;> iassumption
  isplitl [Hc3 Ha3]
  · iapply (ins_start m c 3)
    isplitl [Hc3] <;> iassumption
  isplitl [Hr]; · iexact Hr
  isplitl [Hout]
  · unfold res
    iexists f
    isplitr; · ipureintro; exact written_none m c f
    iexact Hout
  isplitl [Hz0 Hz1 Hz2 Hz3]
  · isplitl [Hz0]; · iexact Hz0
    isplitl [Hz1]; · iexact Hz1
    isplitl [Hz2] <;> iassumption
  isplitl [Hg1] <;> iassumption

/-! ## Out of the last -/

theorem main_elim : Main m K c (aside c) 14 14 2 14 14 14 14 14
    ⊢ iprop(Φ₁ c ∗ (∃ W, owes (c : Thread nD τ) 0 W) ∗ inp m c ∗ ((c : Thread nD τ).loc outB ↦{fullShare} outF m c)) := by
  unfold Main aside zeros Φ₁
  rw [scopedRest0_eq, cells_eq c fun g => semVal g 0, owe_done, outs_end, outs_end, ins_end, ins_end]
  unfold kindP
  iintro ⟨-, HI, HO, HzB, Hown, -, ⟨Hv0, Hp0⟩, ⟨Hv1, Hp1⟩, Hr, -, ⟨Hv2, Hp2⟩, ⟨Hv3, Hp3⟩, Hres, ⟨Hz0, Hz1, Hz2, Hz3⟩, Hg1, Hg2⟩
  unfold res
  icases Hres with ⟨%f, %hf, Hout⟩
  have hf' := written_all m c hf
  subst hf'
  isplitr [HO HI Hout]
  · isplitl [HzB]; · iexact HzB
    isplitl [Hv0 Hv1 Hv2 Hv3 Hz0 Hz1 Hz2 Hz3]
    · isplitl [Hv0 Hz0]; · isplitl [Hv0] <;> iassumption
      isplitl [Hv1 Hz1]; · isplitl [Hv1] <;> iassumption
      isplitl [Hv2 Hz2]; · isplitl [Hv2] <;> iassumption
      isplitl [Hv3] <;> iassumption
    isplitl [Hown Hp0]
    · iexists (pbF m c)
      iapply (Entails.of_eq (pbuf_eq m c).symm)
      isplitl [Hown]; · iexact Hown
      unfold unsent
      rw [← Finset.range_eq_Ico]
      iexact Hp0
    isplitl [Hg1 Hp1]
    · iapply (stg_together c (stgF m c))
      isplitl [Hg1]; · iexact Hg1
      iexact Hp1
    isplitl [Hr Hp2]
    · iapply (rows_together m c)
      isplitl [Hr] <;> iassumption
    iapply (st2_together c (st2F m c))
    isplitl [Hg2]; · iexact Hg2
    iexact Hp3
  isplitl [HO]; · iexact HO
  isplitl [HI]; · iexact HI
  iexact Hout

/-! ## The body -/

def bodyPre : sProp 𝕄 :=
  iprop(Φ₀ m c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))

def bodyPost : sProp 𝕄 :=
  iprop(Φ₁ c ∗ (dats m ρ 0 c).owesAt () t0_0.succ
    ∗ stg c cc0_stg0_0 (xS m c) ∗ stg c cc0_stg1_0 (rwS m c) ∗ stg c cc0_stg2_0 (idS m c) ∗ stg c cc0_stg3_0 (ewS m c) ∗ stg c cc0_stg4_0 (swS m c)
    ∗ stg c cc0_stg5_0 (outF m c))

theorem post_intro : iprop(Φ₁ c ∗ (∃ W, owes (c : Thread nD τ) 0 W) ∗ inp m c ∗ ((c : Thread nD τ).loc outB ↦{fullShare} outF m c))
    ⊢ bodyPost m ρ c := by
  unfold bodyPost inp Dat.owesAt Pipeline.owesWithin
  rw [show (dats m ρ 0 c).owed t0_0.succ = 0 from rfl]
  iintro ⟨H, ⟨%W, HO⟩, ⟨H0, H1, H2, H3, H4⟩, H5⟩
  isplitl [H]; · iexact H
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

theorem sound_body : bodyPre m ρ c ⊢ runs c (atBufs (cc0_body (F := F))) fun _ => bodyPost m ρ c := by
  unfold bodyPre
  iintro ⟨HΦ, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, -, H5⟩⟩
  have e0 : g0 = xS m c := by rw [h0]; unfold Dat.before; rw [if_pos (fetch0_0 t0_0)]; rfl
  have e1 : g1 = rwS m c := by rw [h1]; unfold Dat.before; rw [if_pos (fetch0_1 t0_0)]; rfl
  have e2 : g2 = idS m c := by rw [h2]; unfold Dat.before; rw [if_pos (fetch0_2 t0_0)]; rfl
  have e3 : g3 = ewS m c := by rw [h3]; unfold Dat.before; rw [if_pos (fetch0_3 t0_0)]; rfl
  have e4 : g4 = swS m c := by rw [h4]; unfold Dat.before; rw [if_pos (fetch0_4 t0_0)]; rfl
  subst e0 e1 e2 e3 e4
  unfold Dat.owesAt Pipeline.owesWithin
  icases Ho with ⟨%W, -, HO⟩
  rw [show (dats m ρ 0 c).owed t0_0.castSucc = O₀ c from rfl]
  imod (early_intro m c W g5) $$ [HΦ HO H0 H1 H2 H3 H4 H5] with HE
  · isplitl [HΦ]; · iexact HΦ
    isplitl [HO]; · iexact HO
    isplitr [H5]
    · unfold inp
      isplitl [H0]; · iexact H0
      isplitl [H1]; · iexact H1
      isplitl [H2]; · iexact H2
      isplitl [H3] <;> iassumption
    · iexact H5
  icases HE with ⟨%K, HE⟩
  iapply (whole_body m K c (aside c) ((main_elim m K c).trans (post_intro m ρ c)))
  iexact HE

/-- The library's obligation of the body on device `c`. -/
theorem body_obligation : BodyObligation (dats (F := F) m ρ 0 c) (defs₀ (F := F)) 𝒱₀ () Set.univ := fun t => by
  rw [fin_N0 t]
  rw [bigSep_W0, bigSep_W0]
  simp only [owns_eq]
  exact sound_body m ρ c

end Cert.KernelIdeal.Proto

end
-- ==== Proof.Launch.lean ====
/-
The launch: what the exchange's own ghost state is at the start, how it is dealt to the devices, and the run of the whole
program from any memory with all semaphores at zero.
-/
module

public import proofs.«01_k».proof.Proof.Body
public import Idealize.ShloMosaic.Lib.Pipeline.CollectiveSegs

@[expose] public section

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## Cells and tokens -/

omit [FloatOps F] in
theorem bigSep_option {I : Type} [Fintype I] [DecidableEq I] (Φ : Option I → sProp 𝕄) :
    bigSep Finset.univ Φ = iprop(Φ none ∗ bigSep Finset.univ fun i => Φ (some i)) := by
  rw [show (Finset.univ : Finset (Option I)) = insert none (Finset.univ.map Function.Embedding.some) by ext x; cases x <;> simp,
    bigSep_insert (by simp), bigSep_map]
  rfl

omit [FloatOps F] in
theorem bigSep_swap {I J : Type} [Fintype J] [DecidableEq I] (s : Finset I) (Φ : J → I → sProp 𝕄) :
    (bigSep Finset.univ fun c => bigSep s (Φ c)) = bigSep s fun i => bigSep Finset.univ fun c => Φ c i := by
  induction s using Finset.induction_on with
  | empty => simp only [bigSep_empty]; exact bigSep_emp_const _
  | insert a s ha ih =>
    rw [bigSep_insert ha, ← ih]
    exact (bigSep_congr fun c _ => bigSep_insert ha).trans (bigSep_sep' Finset.univ (fun c => Φ c a) fun c => bigSep s (Φ c))

omit [FloatOps F] in
/-- A family over all devices, each member taken some places on. -/
theorem bigSep_around (s : Finset ℕ) (k : ℕ → ℕ) (hk : ∀ i ∈ s, k i ≤ 8) (Φ : Dev nD → ℕ → sProp 𝕄) :
    (bigSep Finset.univ fun c => bigSep s (Φ c)) = bigSep Finset.univ fun c => bigSep s fun i => Φ (nbr c (k i)) i := by
  rw [bigSep_swap, bigSep_swap s fun c i => Φ (nbr c (k i)) i]
  exact bigSep_congr fun i hi => bigSep_univ_equiv (turn (k i) (hk i hi)) fun c => Φ c i

theorem cellAt_injective : Function.Injective cellAt := by
  rintro ⟨c, k⟩ ⟨c', k'⟩ h
  have h1 : c = c' := congrArg (fun g : GSem nD τ sig => g.1.1) h
  subst h1
  have h2 : csem k = csem k' := congrArg Prod.snd h
  rcases k with _ | k <;> rcases k' with _ | k'
  · rfl
  · cases h2
  · cases h2
  · have h3 : (6 + k.val) % 70 = (6 + k'.val) % 70 := congrArg Fin.val (SemLoc.dma.inj h2)
    have := k.isLt
    have := k'.isLt
    rw [show k = k' from Fin.ext (by omega)]

def ringCells : Finset (GSem nD τ sig) := Finset.univ.map ⟨cellAt, cellAt_injective⟩

/-- The duties of a device's own cells: seven of its barrier, one for each kind and piece. -/
abbrev Duty : Type := Fin 7 ⊕ (Fin 4 × Fin 14)
def tokOf (x : Dev nD × Duty) : GSem nD τ sig × ℕ × ℕ := match x.2 with
  | .inl e => (barCell x.1, 0, e.val + 1)
  | .inr (k, i) => (xCell x.1 k.val (i.val / 7) (i.val % 7 + 1), 0, 0)

theorem tokOf_injective : Function.Injective tokOf := by
  rintro ⟨c, x⟩ ⟨c', x'⟩ h
  have h1 : c = c' := by
    have := congrArg (fun x : GSem nD τ sig × ℕ × ℕ => x.1.1.1) h
    rcases x with e | ⟨k, i⟩ <;> rcases x' with e' | ⟨k', i'⟩ <;> exact this
  subst h1
  have hs := congrArg (fun x : GSem nD τ sig × ℕ × ℕ => x.1.2) h
  have hn := congrArg (fun x : GSem nD τ sig × ℕ × ℕ => x.2.2) h
  rcases x with e | ⟨k, i⟩ <;> rcases x' with e' | ⟨k', i'⟩
  · have : e.val + 1 = e'.val + 1 := hn
    rw [show e = e' from Fin.ext (by omega)]
  · cases hs
  · cases hs
  · have := k.isLt; have := k'.isLt; have := i.isLt; have := i'.isLt
    have hq : (dq k.val (i.val / 7) (i.val % 7 + 1)).val = (dq k'.val (i'.val / 7) (i'.val % 7 + 1)).val := congrArg Fin.val (SemLoc.dma.inj hs)
    rw [dq_val _ _ _ (by omega) (by omega) (by omega), dq_val _ _ _ (by omega) (by omega) (by omega)] at hq
    rw [show k = k' from Fin.ext (by omega), show i = i' from Fin.ext (by omega)]

def ringToks : Finset (GSem nD τ sig × ℕ × ℕ) := Finset.univ.map ⟨tokOf, tokOf_injective⟩

def u₀ : UU := (initOf (Pipeline.cells cfgs cellOf_inj) (Pipeline.launchToks cfgs cellOf_inj), initOf ringCells ringToks)

/-- The tokens of one kind on a device, and all of a device's own cells. -/
def kindToks (k : ℕ) (c : Dev nD) : sProp 𝕄 := bigSep (Finset.range 14) fun i => dutyTok ER (xCell c k (i / 7) (i % 7 + 1)) 0 0
def barToks (c : Dev nD) : sProp 𝕄 := bigSep (Finset.Icc 1 7) fun e => dutyTok ER (barCell c) 0 e
def toks (c : Dev nD) : sProp 𝕄 := iprop(barToks (F := F) c ∗ kindToks (F := F) 0 c ∗ kindToks (F := F) 1 c ∗ kindToks (F := F) 2 c ∗ kindToks (F := F) 3 c)

omit [FloatOps F] in
theorem bigSep_fin14 (Φ : ℕ → sProp 𝕄) : (bigSep Finset.univ fun i : Fin 14 => Φ i.val) = bigSep (Finset.range 14) Φ := by
  rw [← Nat.Iio_eq_range, ← Fin.map_valEmbedding_univ, bigSep_map]
  rfl

omit [FloatOps F] in
theorem toks_eq (c : Dev nD) : (bigSep Finset.univ fun x : Duty => (dutyTok ER (tokOf (c, x)).1 (tokOf (c, x)).2.1 (tokOf (c, x)).2.2 : sProp 𝕄)) = toks c := by
  rw [bigSep_univ_sum, bigSep_univ_prod, bigSep_univ_eq_bigSepL [(0 : Fin 4), 1, 2, 3] (by decide) (by decide),
    bigSep_univ_eq_bigSepL [(0 : Fin 7), 1, 2, 3, 4, 5, 6] (by decide) (by decide)]
  unfold toks barToks kindToks
  rw [bigSep_eq_bigSepL_of_eq (S := Finset.Icc 1 7) [1, 2, 3, 4, 5, 6, 7] (by decide) (by decide)]
  simp only [← bigSep_fin14]
  rfl

/-! ## Dealing the ghost state -/

/-- What the launch element deals device `c`. -/
def G (c : Dev nD) : sProp 𝕄 :=
  iprop((bigSep Finset.univ fun k : Option (Fin 64) => roundState ER (exRd m) (cellAt (c, k)) 0)
    ∗ ((bigSep Finset.univ fun k : Option (Fin 64) => atPos ER (cellAt (c, k)) 0 ∅ 0) ∗ bigSep Finset.univ fun k : Option (Fin 64) => reached ER (cellAt (c, k)) 0)
    ∗ toks (F := F) c)

/-- What the global step makes of it. -/
def G' (c : Dev nD) : sProp 𝕄 := iprop(∃ K, records m K ∗ linear (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Option (Fin 64) => Φ (cellAt (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (exRd m) ringCells ringToks) $$ HX with ⟨Hst, Hr, Hat, Htok⟩
  imodintro
  ihave Hst' := (Entails.of_eq (hX fun g => roundState ER (exRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 64) => semVal (cellAt (c, k)) 0 : sProp 𝕄) := by
  rw [unscopedSems0_eq, bigSep_option]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (exRd m) κ (cellAt (c, k))))
          ∗ ((bigSep Finset.univ fun k : Option (Fin 64) => atPos ER (cellAt (c, k)) 0 ∅ 0) ∗ bigSep Finset.univ fun k : Option (Fin 64) => reached ER (cellAt (c, k)) 0)
          ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Option (Fin 64) => semVal (cellAt (c, k)) 0) ∗ bigSep Finset.univ fun k : Option (Fin 64) => roundState ER (exRd m) (cellAt (c, k)) 0)
      ⊢ (|={Set.univ}=> bigSep Finset.univ fun k => iprop(∃ κ : ℕ, cellInv ER (exRd m) κ (cellAt (c, k))) : sProp 𝕄) from by
        rw [← bigSep_sep']
        exact (bigSep_mono fun k _ => (Rounds.body_intro ER (exRd m) (cellAt (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens go to the devices that pay. -/
theorem toks_around : (bigSep Finset.univ fun c : Dev nD => (toks c : sProp 𝕄)) ⊢ bigSep Finset.univ fun c : Dev nD => payToks (F := F) c := by
  unfold toks payToks
  rw [bigSep_sep', bigSep_sep', bigSep_sep', bigSep_sep', bigSep_sep', bigSep_sep', bigSep_sep', bigSep_sep']
  unfold barToks kindToks
  rw [bigSep_around (Finset.Icc 1 7) (fun e => 8 - e) (fun e _ => Nat.sub_le 8 e) fun c e => (dutyTok ER (barCell c) 0 e : sProp 𝕄),
    bigSep_around (Finset.range 14) (fun i => i % 7 + 1) (fun i _ => by omega) fun c i => (dutyTok ER (xCell c 1 (i / 7) (i % 7 + 1)) 0 0 : sProp 𝕄),
    bigSep_around (Finset.range 14) (fun i => i % 7 + 1) (fun i _ => by omega) fun c i => (dutyTok ER (xCell c 3 (i / 7) (i % 7 + 1)) 0 0 : sProp 𝕄)]

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem linear_intro (c : Dev nD) : iprop((bigSep Finset.univ fun k : Option (Fin 64) => atPos ER (cellAt (c, k)) 0 ∅ 0) ∗ payToks (F := F) c) ⊢ linear (F := F) c := by
  rw [bigSep_option]
  unfold linear
  iintro H; iexact H

theorem regroup :
    (bigSep Finset.univ fun c : Dev nD => iprop((bigSep Finset.univ fun k => iprop(∃ κ : ℕ, cellInv ER (exRd m) κ (cellAt (c, k))))
          ∗ ((bigSep Finset.univ fun k : Option (Fin 64) => atPos ER (cellAt (c, k)) 0 ∅ 0) ∗ bigSep Finset.univ fun k : Option (Fin 64) => reached ER (cellAt (c, k)) 0)
          ∗ toks (F := F) c) : sProp 𝕄)
      ⊢ bigSep Finset.univ (G' m) := by
  rw [bigSep_sep', bigSep_sep', bigSep_sep', ← bigSep_univ_prod (fun x : Cell => iprop(∃ κ : ℕ, cellInv ER (exRd m) κ (cellAt x))),
    ← bigSep_univ_prod (fun x : Cell => (reached ER (cellAt x) 0 : sProp 𝕄))]
  iintro ⟨HI, ⟨Hat, #HR⟩, Htok⟩
  ihave HK := (BI.bigSep_exists_pi Finset.univ (fun (x : Cell) (κ : ℕ) => (cellInv ER (exRd m) κ (cellAt x) : sProp 𝕄))) $$ HI
  icases HK with ⟨%K, #HI⟩
  ihave Htk := (toks_around (F := F)) $$ Htok
  iapply (bigSep_with (R := records m K) (Φ := linear (F := F)) (Ψ := G' m) fun c _ => by
    unfold G'
    iintro ⟨H1, H2⟩
    iexists K
    isplitl [H1] <;> iassumption)
  isplitr
  · unfold records; isplitl; · iexact HI
    iexact HR
  · iapply ((Entails.of_eq (bigSep_sep' Finset.univ (fun c : Dev nD => bigSep Finset.univ fun k : Option (Fin 64) => (atPos ER (cellAt (c, k)) 0 ∅ 0 : sProp 𝕄)) (payToks (F := F))).symm).trans
      (bigSep_weaken _ (linear_intro (F := F))))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_weaken _ (core_alloc m)).trans (bigSep_fupd _ _)).trans (BI.fupd_mono (regroup m))

/-! ## The credits -/

omit [FloatOps F] in
/-- If every device owes `n` at one semaphore of the device `k` places on, every device starts with credit `n` at its own. -/
theorem launch_one (c : Dev nD) (k : ℕ) (hk : k ≤ 8) (sm : SemLoc sig) (n : ℕ) :
    (Pipeline.launchCred (fun d => tallyAt ((nbr d k : Thread nD τ), sm) () n) c : sProp 𝕄) ⊢ cred (tallyAt ((c : Thread nD τ), sm) () n) := by
  refine (Pipeline.launchCred_elim _ c sm).trans (Entails.of_eq (congrArg cred ?_))
  unfold tallyAt
  refine congrArg _ (Finsupp.ext fun u => ?_)
  cases u
  have e (d : Dev nD) : (tallyAt ((nbr d k : Thread nD τ), sm) () n : CellTallies nD τ sig Unit) ((c : Thread nD τ), sm) () = if d = nbr c (8 - k) then n else 0 := by
    rw [tallyAt_apply]
    by_cases h : d = nbr c (8 - k)
    · subst h
      rw [nbr_forth c k hk, if_pos ⟨rfl, rfl⟩, if_pos rfl]
    · rw [if_neg (fun ⟨h1, _⟩ => h (by rw [show c = nbr d k from congrArg (fun g : GSem nD τ sig => g.1.1) h1, nbr_back d k hk])), if_neg h]
  rw [Pipeline.launchCredit_owing, Finsupp.single_eq_same]
  refine (Finset.sum_congr rfl fun d _ => e d).trans ?_
  rw [Finset.sum_ite_eq' Finset.univ (nbr c (8 - k)) fun _ => n, if_pos (Finset.mem_univ _)]

omit [FloatOps F] in
theorem launch_sum (s : Finset ℕ) (O : ℕ → Dev nD → CellTallies nD τ sig Unit) (c : Dev nD) :
    (Pipeline.launchCred (fun d => ∑ i ∈ s, O i d) c : sProp 𝕄) = bigSep s fun i => Pipeline.launchCred (O i) c := by
  induction s using Finset.induction_on with
  | empty => simp only [Finset.sum_empty]; rw [Pipeline.launchCred_zero, bigSep_empty]; rfl
  | insert a s ha ih => rw [bigSep_insert ha, ← ih]; simp only [Finset.sum_insert ha]; exact Pipeline.launchCred_add _ _ c

omit [FloatOps F] in
theorem cred_units (g : GSem nD τ sig) (n : ℕ) : (bigSep (Finset.Icc 1 n) fun _ => cred (tallyAt g () 1) : sProp 𝕄) ⊢ cred (tallyAt g () n) := by
  induction n with
  | zero => rw [show Finset.Icc 1 0 = (∅ : Finset ℕ) from rfl, bigSep_empty, tallyAt_zero, cred_zero]; exact .refl
  | succ n ih =>
    rw [← Finset.insert_Icc_right_eq_Icc_add_one (Nat.le_add_left 1 n), bigSep_insert (by simp), ← tallyAt_add]
    show iprop(cred (tallyAt g () 1) ∗ bigSep (Finset.Icc 1 n) fun _ => cred (tallyAt g () 1)) ⊢ _
    iintro ⟨H1, H⟩
    iapply (cred_add (tallyAt g () n) (tallyAt g () 1)).2
    isplitl [H]
    · iapply ih; iexact H
    iexact H1

omit [FloatOps F] in
theorem creds (c : Dev nD) : (Pipeline.launchCred O₀ c : sProp 𝕄) ⊢ credits (F := F) c := by
  have e : (O₀ : Dev nD → CellTallies nD τ sig Unit) = fun d =>
      (∑ i ∈ Finset.range 14, tallyAt (xCell (nbr d (i % 7 + 1)) 3 (i / 7) (i % 7 + 1)) () NN)
        + (∑ i ∈ Finset.range 14, tallyAt (xCell (nbr d (i % 7 + 1)) 1 (i / 7) (i % 7 + 1)) () NN)
        + ∑ e ∈ Finset.Icc 1 7, tallyAt (barCell (nbr d (8 - e))) () 1 := by
    funext d; unfold O₀ Owe; rw [Finset.range_eq_Ico]
  rw [e, Pipeline.launchCred_add, Pipeline.launchCred_add, launch_sum _ fun i d => tallyAt (xCell (nbr d (i % 7 + 1)) 3 (i / 7) (i % 7 + 1)) () NN,
    launch_sum _ fun i d => tallyAt (xCell (nbr d (i % 7 + 1)) 1 (i / 7) (i % 7 + 1)) () NN, launch_sum _ fun e d => tallyAt (barCell (nbr d (8 - e))) () 1]
  unfold credits
  iintro ⟨⟨H3, H1⟩, HB⟩
  isplitl [HB]
  · iapply ((bigSep_weaken (Finset.Icc 1 7) fun e => launch_one (F := F) c (8 - e) (Nat.sub_le 8 e) (.reg barS) 1).trans (cred_units (F := F) (barCell c) 7))
    iexact HB
  isplitl [H1]
  · iapply (bigSep_weaken (Finset.range 14) fun i => launch_one (F := F) c (i % 7 + 1) (by omega) (.dma (dq 1 (i / 7) (i % 7 + 1))) NN)
    iexact H1
  iapply (bigSep_weaken (Finset.range 14) fun i => launch_one (F := F) c (i % 7 + 1) (by omega) (.dma (dq 3 (i / 7) (i % 7 + 1))) NN)
  iexact H3

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, unscopedSems0_eq]
  unfold Φ₁ Pipeline.ownSems0
  iintro H; iexact H

theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  have hl : lv ((c : Thread nD τ), .dma q) () ≤ 0 := by
    show (if 22 ≤ q.val ∧ q.val < 38 then 2 else if 54 ≤ q.val then 3 else 0) ≤ 0
    rw [if_neg (by omega), if_neg (by omega)]
  rcases hO with rfl | rfl
  · exact mayWait_of c (.dma q) 7 0 0 0 hl (by decide) (fun _ => by decide) fun _ => by decide
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The window's array on device `c` when the program has ended. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with all semaphores at zero, every fair execution of the program on the eight devices ends, with every
    array as computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand's array is as it was. -/
theorem finalA_in (c : Dev nD) (w : Fin 6) (h : (cfg0.win w).isOut = false) :
    finalA m ρ c w = (s₀ m ρ).mem ((cfg0.win w).arr.view.loc (c : Thread nD τ)) :=
  (dats (F := F) m ρ 0 c).arrAt_in w h _

end Cert.KernelIdeal.Proto

end
-- ==== Proof.Frames.lean ====
/-
  What the programs leave behind: their arguments as they were and every semaphore at zero. The run is one theorem over any
  float values; the two programs of the kernel take their statement from it, and the reference's comes from its own run.
-/
module

public import proofs.«01_k».proof.Defs
public import proofs.«01_k».proof.Proof.Launch
public import proofs.«01_k».proof.Proof.Gen.Kernel
public import proofs.«01_k».proof.Proof.Gen.Pre_finite_KernelIdeal
public import proofs.«01_k».proof.Proof.Gen.Pre_finite_ReferenceIdeal
public import proofs.«01_k».proof.Proof.Gen.ReferenceIdeal
public import proofs.«01_k».proof.Proof.Gen.ReferenceIdeal.Run

@[expose] public section

set_option maxRecDepth 16384

noncomputable section

namespace Cert.Proof

open Idealize.ShloMosaic Idealize.ShloMosaic.TcCoe Idealize.SL.Sem
open Cert.KernelIdeal.Proto (run_main QC finalA finalA_in)

section
variable {F : FTy → Type} [FloatOps F]
variable {m : (ℓ : Loc Cert.KernelIdeal.nD Cert.KernelIdeal.τ Cert.KernelIdeal.sig) → Buf (Elt F) ℓ} {ρ : Dev Cert.KernelIdeal.nD → PrngReg}

/-- A device's five arguments, when the kernel has ended. -/
theorem args_kept {r : PUnit × MemSt Cert.KernelIdeal.nD Cert.KernelIdeal.τ Cert.KernelIdeal.sig (Elt F)} (h : QC m ρ r)
    (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  ⟨(h c 0).trans (finalA_in m ρ c 0 rfl), (h c 1).trans (finalA_in m ρ c 1 rfl), (h c 2).trans (finalA_in m ρ c 2 rfl),
    (h c 3).trans (finalA_in m ρ c 3 rfl), (h c 4).trans (finalA_in m ρ c 4 rfl)⟩

end

theorem frame_ideal : Cert.quiescent_KernelIdeal := fun m ρ _ =>
  (θ_run Cert.KernelIdeal.defs _ _).mono (fun _ h => ⟨args_kept h.1, h.2⟩) (run_main m ρ)

theorem frame_ideal_finite : Cert.quiescent_KernelIdeal_pre_finite_KernelIdeal := fun m ρ _ => frame_ideal m ρ trivial

/-- The body tables of the two programs of the kernel are one table. -/
theorem defs_same {F : FTy → Type} [FloatOps F] : Cert.Kernel.defs (F := F) = Cert.KernelIdeal.defs (F := F) := by
  refine congrArg (Pipeline.defs Cert.KernelIdeal.pcfgs) (congrArg Defs.onTc (funext fun l => ?_))
  match l with
  | 0 => rfl

theorem frame_kernel : Cert.quiescent_Kernel := fun m ρ _ => by
  rw [show Cert.Kernel.defs (F := Bits) = Cert.KernelIdeal.defs (F := Bits) from defs_same]
  exact (θ_run Cert.KernelIdeal.defs _ _).mono (fun _ h => ⟨fun c => args_kept h.1 c, h.2⟩) (run_main (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_reference_finite : Cert.quiescent_ReferenceIdeal_pre_finite_ReferenceIdeal := fun m ρ _ => frame_reference m ρ trivial

end Cert.Proof

end
-- ==== Proof.Scores.lean ====
/-
Scores and probabilities of a token, as extended reals: what both programs compute before they meet the experts'
weights. With finite tokens and finite router weights a probability is a nonnegative finite number, so a factor of
it goes in and out of a sum.
-/
module

public import Idealize.ShloMosaic.Lib.Pointwise
public import Idealize.ShloMosaic.PureOps.Ideal
public import Mathlib.Data.EReal.Operations

@[expose] public section

noncomputable section

namespace Cert.Proof

open Idealize.ShloMosaic

/-- What a row's maximum starts from. -/
abbrev low : EReal := Ideal.ofBits .f32 0xFF800000#32

theorem low_eq : low = ⊥ := by
  show Ideal.ofBits .f32 0xFF800000#32 = ⊥
  simp [Ideal.ofBits, Ideal.ieee]

/-- The largest of a row of scores. -/
def top (s : Fin 16 → EReal) : EReal := Finset.fold max low s Finset.univ
/-- The sum of the row's exponentials, each taken below the largest. -/
def mass (s : Fin 16 → EReal) : EReal := ∑ j, Ideal.exp (s j - top s)
/-- The row's probabilities. -/
def prob (s : Fin 16 → EReal) (j : Fin 16) : EReal := Ideal.div (Ideal.exp (s j - top s)) (mass s)

/-- Finite: neither of the infinities. -/
def IsReal (x : EReal) : Prop := ∃ r : ℝ, x = r

theorem fin_of_ne {x : EReal} (h : x ≠ ⊤) (h' : x ≠ ⊥) : IsReal x := ⟨x.toReal, (EReal.coe_toReal h h').symm⟩
theorem fin_of_abs {x : EReal} (h : max x (-x) < ⊤) : IsReal x :=
  fin_of_ne (fun e => by simp [e] at h) (fun e => by simp [e] at h)
theorem IsReal.mul {x y : EReal} : IsReal x → IsReal y → IsReal (x * y)
  | ⟨a, ha⟩, ⟨b, hb⟩ => ⟨a * b, by rw [ha, hb, EReal.coe_mul]⟩
theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.exp {x : EReal} : IsReal x → IsReal (Ideal.exp x)
  | ⟨a, ha⟩ => ⟨Real.exp a, by rw [ha]; rfl⟩
theorem IsReal.sum {ι : Type} (S : Finset ι) (f : ι → EReal) (h : ∀ i, IsReal (f i)) : IsReal (∑ i ∈ S, f i) := by
  classical
  induction S using Finset.induction_on with
  | empty => exact ⟨0, by simp⟩
  | insert a S ha ih => rw [Finset.sum_insert ha]; exact (h a).add ih

theorem exp_nonneg (x : EReal) : 0 ≤ Ideal.exp x := by
  induction x with
  | bot => exact le_refl _
  | top => exact le_top
  | coe r => exact EReal.coe_nonneg.2 (Real.exp_pos r).le
theorem exp_pos {x : EReal} : IsReal x → 0 < Ideal.exp x
  | ⟨a, ha⟩ => by rw [ha]; exact EReal.coe_pos.2 (Real.exp_pos a)

/-- The maximum of finite scores is finite. -/
theorem top_fin (s : Fin 16 → EReal) (h : ∀ j, IsReal (s j)) : IsReal (top s) := by
  have key : ∀ S : Finset (Fin 16), S.Nonempty → IsReal (Finset.fold max low s S) := by
    intro S hS
    induction hS using Finset.Nonempty.cons_induction with
    | singleton a => simpa [low_eq] using h a
    | cons a S ha _ ih =>
      rw [Finset.fold_cons]
      rcases max_choice (s a) (Finset.fold max low s S) with e | e
      · rw [e]; exact h a
      · rw [e]; exact ih
  exact key _ Finset.univ_nonempty

/-- A probability of a finite row is nonnegative and finite. -/
theorem prob_fin (s : Fin 16 → EReal) (h : ∀ j, IsReal (s j)) (j : Fin 16) : 0 ≤ prob s j ∧ prob s j ≠ ⊤ := by
  have hd : ∀ j, IsReal (s j - top s) := fun j => (h j).sub (top_fin s h)
  have hm : IsReal (mass s) := IsReal.sum _ _ fun j => (hd j).exp
  have hp : 0 < mass s := (exp_pos (hd j)).trans_le
    (Finset.single_le_sum (f := fun j => Ideal.exp (s j - top s)) (fun _ _ => exp_nonneg _) (Finset.mem_univ j))
  obtain ⟨a, ha⟩ := (hd j).exp
  obtain ⟨b, hb⟩ := hm
  have ha0 : 0 ≤ a := EReal.coe_nonneg.1 (ha ▸ exp_nonneg _)
  have hb0 : 0 < b := EReal.coe_pos.1 (hb ▸ hp)
  have e : prob s j = ((a * b⁻¹ : ℝ) : EReal) := by
    unfold prob Ideal.div
    rw [if_neg hp.ne', ha, hb, EReal.coe_mul, EReal.coe_inv]
  rw [e]
  exact ⟨EReal.coe_nonneg.2 (mul_nonneg ha0 (inv_nonneg.2 hb0.le)), EReal.coe_ne_top _⟩

/-- A nonnegative finite factor goes into a sum. -/
theorem mul_sum_fin {ι : Type} (S : Finset ι) (p : EReal) (h0 : 0 ≤ p) (ht : p ≠ ⊤) (f : ι → EReal) :
    p * ∑ i ∈ S, f i = ∑ i ∈ S, p * f i := by
  classical
  induction S using Finset.induction_on with
  | empty => simp
  | insert a S ha ih =>
    rw [Finset.sum_insert ha, Finset.sum_insert ha, EReal.left_distrib_of_nonneg_of_ne_top h0 ht, ih]

/-- The score of token `t` for expert `e`. -/
def score (x : (⟨2, ![512, 256]⟩ : Shape).Idx → EReal) (rw : (⟨2, ![256, 16]⟩ : Shape).Idx → EReal) (t : Fin 512)
    (e : Fin 16) : EReal := ∑ k : Fin 256, x (ix2 t k) * rw (ix2 k e)

/-- What both programs leave at row `t`, column `f`: the shared product, and the routed product of the one expert
the token's word names, if it names one. -/
def wanted (x : (⟨2, ![512, 256]⟩ : Shape).Idx → EReal) (rw : (⟨2, ![256, 16]⟩ : Shape).Idx → EReal)
    (ids : IVec ⟨2, ![512, 1]⟩ 32) (ew : (⟨3, ![16, 256, 512]⟩ : Shape).Idx → EReal)
    (sw : (⟨2, ![256, 512]⟩ : Shape).Idx → EReal) (t f : Fin 512) : EReal :=
  ∑ k : Fin 256, x (ix2 t k) * sw (ix2 k f) +
    ∑ e : Fin 16, if ids (ix2 t 0) = BitVec.ofNat 32 e.val then
      prob (score x rw t) e * ∑ k : Fin 256, x (ix2 t k) * ew (ix3 e k f) else 0

/-- Words of distinct experts are distinct. -/
theorem word_inj {a b : ℕ} (ha : a < 16) (hb : b < 16) (h : BitVec.ofNat 32 a = BitVec.ofNat 32 b) : a = b := by
  have := congrArg BitVec.toNat h
  simp only [BitVec.toNat_ofNat] at this
  omega

/-- A sum over the experts of what only the named one adds. -/
theorem sum_named (w : BitVec 32) (e : Fin 16) (he : w = BitVec.ofNat 32 e.val) (g : Fin 16 → EReal) :
    (∑ j : Fin 16, if w = BitVec.ofNat 32 j.val then g j else 0) = g e := by
  rw [Finset.sum_eq_single e (fun j _ hj => if_neg fun h => hj (Fin.ext (word_inj j.isLt e.isLt (h.symm.trans he))))
    (fun h => absurd (Finset.mem_univ e) h), if_pos he]

end Cert.Proof

end
-- ==== Proof.Reference.lean ====
/-
The reference's result read at an index: the shared product plus, for a token routed to one of the sixteen experts,
its probability of that expert times the token's product with that expert's weights.
-/
module

public import proofs.«01_k».proof.Proof.Gen.ReferenceIdeal.Run
public import proofs.«01_k».proof.Proof.Scores

@[expose] public section

set_option maxRecDepth 16384

noncomputable section

namespace Cert.ReferenceIdeal.Value

open Cert.ReferenceIdeal Cert.ReferenceIdeal.Gen Cert.Proof
open Idealize.ShloMosaic Idealize.ShloMosaic.TcCoe Idealize.SL.Sem Idealize.ShloMosaic.StableHlo

/-- A word as one of sixteen positions: read signed, held within the sixteen. -/
def at16 (w : BitVec 32) : Fin 16 := ⟨min w.toInt.toNat 15, by omega⟩

theorem at16_ofNat (e : Fin 16) : at16 (BitVec.ofNat 32 e.val) = e := by
  fin_cases e <;> rfl

/-- The expert's weights taken for every token. -/
theorem take_expert {α : Type} (w : S16x256x512.Idx → α) (i : IVec S512x1 32) (t : Fin 512) (k : Fin 256) (f : Fin 512) :
    Host.gather gather_S16x256x512_S512x1_S512x256x512_12_0_n_n_0_1_1256512 w i (ix3 t k f) = w (ix3 (at16 (i (ix2 t 0))) k f) := by
  have e : gather_S16x256x512_S512x1_S512x256x512_12_0_n_n_0_1_1256512.siIdx (ix3 t k f) ⟨0, by decide⟩ = ix2 t 0 := by
    funext b; match b with
    | ⟨0, _⟩ => rfl
    | ⟨1, _⟩ => rfl
  rw [← e]
  refine congrArg w (funext fun a => Fin.ext ?_)
  match a with
  | ⟨0, _⟩ => rfl
  | ⟨1, _⟩ => exact Nat.zero_add _
  | ⟨2, _⟩ => exact Nat.zero_add _

/-- The probability taken from every token's row. -/
theorem take_prob {α : Type} (p : S512x16.Idx → α) (i : IVec S512x1x1 32) (t : Fin 512) :
    Host.gather gather_S512x16_S512x1x1_S512x1_n_1_0_0_1_2_11 p i (ix2 t 0) = p (ix2 t (at16 (i (ix3 t 0 0)))) := by
  have e : gather_S512x16_S512x1x1_S512x1_n_1_0_0_1_2_11.siIdx (ix2 t 0) ⟨0, by decide⟩ = ix3 t 0 0 := by
    funext b; match b with
    | ⟨0, _⟩ => rfl
    | ⟨1, _⟩ => rfl
    | ⟨2, _⟩ => rfl
  rw [← e]
  refine congrArg p (funext fun a => Fin.ext ?_)
  match a with
  | ⟨0, _⟩ => exact Nat.zero_add _
  | ⟨1, _⟩ => rfl

/-- A word is either one of the sixteen experts or outside them in both of the reference's comparisons. -/
theorem word_cases (w : BitVec 32) :
    (∃ e : Fin 16, w = BitVec.ofNat 32 e.val) ∨
      ((∀ e : Fin 16, w ≠ BitVec.ofNat 32 e.val) ∧
        IntOp.andi (IntOp.cmpi .sge w 0#32) (IntOp.cmpi .slt w 16#32) = 0#1) := by
  by_cases h : w.toNat < 16
  · exact Or.inl ⟨⟨w.toNat, h⟩, by simp⟩
  · refine Or.inr ⟨fun e he => h ?_, ?_⟩
    · rw [he, BitVec.toNat_ofNat]; omega
    · have key : ¬ (0 ≤ w.toInt ∧ w.toInt < 16) := by
        rw [BitVec.toInt_eq_toNat_cond]; split <;> omega
      simp only [IntOp.andi, IntOp.cmpi]
      by_cases h0 : (0#32).sle w = true
      · have h1 : w.slt 16#32 = false := by
          rw [Bool.eq_false_iff]
          intro h1
          rw [BitVec.sle_iff_toInt_le] at h0
          rw [BitVec.slt_iff_toInt_lt] at h1
          exact key ⟨by simpa using h0, by simpa using h1⟩
        rw [h1]; simp
      · rw [Bool.not_eq_true] at h0
        rw [h0]; simp

/-- The reference's tests on an expert's word, and the word it takes the expert at. -/
theorem known_ofNat (e : Fin 16) :
    IntOp.andi (IntOp.cmpi .sge (BitVec.ofNat 32 e.val) 0#32) (IntOp.cmpi .slt (BitVec.ofNat 32 e.val) 16#32) = 1#1 ∧
      IntOp.andi (IntOp.cmpi .sge (BitVec.ofNat 32 e.val) 0#32) (IntOp.cmpi .sle (BitVec.ofNat 32 e.val) 15#32) = 1#1 ∧
      Scalar.select (IntOp.cmpi .slt (BitVec.ofNat 32 e.val) 0#32) (IntOp.addi (BitVec.ofNat 32 e.val) 16#32)
        (BitVec.ofNat 32 e.val) = BitVec.ofNat 32 e.val := by
  fin_cases e <;> exact ⟨rfl, rfl, rfl⟩

/-- The run of the reference, its result read at every index. -/
theorem run_wanted (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ t f : Fin 512, (r.2.mem ((c.tc : Thread nD τ).loc main_v29)) (ix2 t f) =
        wanted (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) t f) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) := by
  refine (θ_run defs _ _).mono (fun r h c => ⟨fun t f => ?_, (h c).2⟩) (run m ρ)
  rw [(h c).1]
  clear h
  generalize (m ((c.tc : Thread nD τ).loc main_arg0)) = x
  generalize (m ((c.tc : Thread nD τ).loc main_arg1)) = rw
  generalize (m ((c.tc : Thread nD τ).loc main_arg2)) = ids
  generalize (m ((c.tc : Thread nD τ).loc main_arg3)) = ew
  generalize (m ((c.tc : Thread nD τ).loc main_arg4)) = sw
  pointwise [take_expert, take_prob]
  unfold wanted
  refine congrArg₂ (· + ·) rfl ?_
  rcases word_cases (ids (ix2 t 0)) with ⟨e, he⟩ | ⟨hn, h0⟩
  · obtain ⟨h1, h2, h3⟩ := known_ofNat e
    rw [sum_named _ e he]
    simp only [he, h1, h2, h3, at16_ofNat]
    rfl
  · rw [h0, Finset.sum_eq_zero fun e _ => if_neg (hn e)]
    exact Ideal.ofBits_zero_f32
end Cert.ReferenceIdeal.Value

end
-- ==== Proof.Value.lean ====
/-
The kernel's result read at an index, over the extended reals. Every device ends with the same array: at each row and
column the shared product plus the sum over the devices of their partial sums, and a device's partial sum is what the
token's expert adds if the device holds it.
-/
module

public import proofs.«01_k».proof.Proof.Launch
public import proofs.«01_k».proof.Proof.Scores
public import Idealize.ShloMosaic.Lib.Pipeline.ValueKit.Point

@[expose] public section

set_option maxRecDepth 16384

noncomputable section

namespace Cert.KernelIdeal.Proto

open Cert.KernelIdeal Cert.KernelIdeal.Gen Cert.Proof
open Idealize.ShloMosaic Idealize.ShloMosaic.TcCoe Idealize.SL.Sem Idealize.ShloMosaic.Pipeline

/-! ## The operands and the result as whole arrays -/

section Whole
variable {F : FTy → Type} [FloatOps F] (m : (ℓ : Loc nD τ sig) → Buf (Elt F) ℓ) (c : Dev nD)

/-- A block at index zero is placed at the start of its array. -/
theorem emb_block (w : Fin 6) (y : ((cfg0.win w).xblock (cfg0.grid.coords t0_0)).Idx) (a) :
    (((cfg0.win w).rect t0_0).emb y a).val = (y a).val :=
  (cfg0.win w).rect_emb_val_of_index_zero t0_0 a (by fin_cases w <;> rfl) y

/-- The kernel reads each of its arrays whole. -/
theorem xS_eq : xS m c = m ((c.tc : Thread nD τ).loc main_arg0) :=
  funext fun y => congrArg (m ((c.tc : Thread nD τ).loc main_arg0)) (funext fun a => Fin.ext (emb_block 0 y a))
theorem rwS_eq : rwS m c = m ((c.tc : Thread nD τ).loc main_arg1) :=
  funext fun y => congrArg (m ((c.tc : Thread nD τ).loc main_arg1)) (funext fun a => Fin.ext (emb_block 1 y a))
theorem idS_eq : idS m c = m ((c.tc : Thread nD τ).loc main_arg2) :=
  funext fun y => congrArg (m ((c.tc : Thread nD τ).loc main_arg2)) (funext fun a => Fin.ext (emb_block 2 y a))
theorem ewS_eq : ewS m c = m ((c.tc : Thread nD τ).loc main_arg3) :=
  funext fun y => congrArg (m ((c.tc : Thread nD τ).loc main_arg3)) (funext fun a => Fin.ext (emb_block 3 y a))
theorem swS_eq : swS m c = m ((c.tc : Thread nD τ).loc main_arg4) :=
  funext fun y => congrArg (m ((c.tc : Thread nD τ).loc main_arg4)) (funext fun a => Fin.ext (emb_block 4 y a))

/-- The result array ends as the body leaves its staging buffer. -/
theorem finalA_out (ρ : Dev nD → PrngReg) : finalA m ρ c 5 = outF m c := by
  have h : ∀ t a, win0_5.index t a = 0 := fun t a => rfl
  refine (dats m ρ 0 c).arrAt_eq_of_covers 5 _ (by decide +kernel) fun t hf y => ?_
  blk_simp
  have e : (win0_5.blk t).view.emb y = y := by blk_ext [h]
  rw [e]
  rfl

end Whole

/-! ## The sums -/

variable (m : (ℓ : Loc nD τ sig) → Buf (Elt Ideal) ℓ) (c : Dev nD)

/-- Rounding changes nothing here. -/
theorem rbH_at (h : ℕ) (r : Fin 64) (q : Fin 256) : (rbH m c h (ix2 r q) : EReal) = accF m c h (ix2 r q) := by
  unfold rbH accF
  split <;> pointwise [k0_pay12, k0_pay17, k0_pay11, k0_pay16, k0_pay10, k0_pay15]

/-- The device whose rows token `t` is among. -/
def owner (t : Fin 512) : Dev nD := ⟨t.val / 64, by have := t.isLt; show t.val / 64 < 8; omega⟩

/-- Each row of the result is the finished sum of the device it belongs to. -/
theorem outF_at (t f : Fin 512) : (outF m c (ix2 t f) : EReal) =
    accF m (owner t) (f.val / 256) (ix2 (Fin.ofNat 64 t.val) (Fin.ofNat 256 f.val)) := by
  have ht := t.isLt
  have hf := f.isLt
  have hc := dev_lt c
  show (if t.val / 64 = c.val then accF m c (f.val / 256) (ix2 (Fin.ofNat 64 t.val) (Fin.ofNat 256 f.val))
    else wide (tlF m c (f.val / 256) ((c.val + 8 - t.val / 64) % 8)) (ix2 (Fin.ofNat 64 t.val) (Fin.ofNat 256 f.val)) : EReal) = _
  split
  · next h => rw [show c = owner t from Fin.ext h.symm]
  · next h =>
    pointwise [wide, tlF, st2F, rbF]
    rw [rbH_at]
    have e1 : nbr c (8 - (Fin.ofNat 8 ((c.val + 8 - t.val / 64) % 8)).val) = owner t := by
      apply Fin.ext
      show (c.val + (8 - (c.val + 8 - t.val / 64) % 8 % 8)) % 8 = t.val / 64
      omega
    have e2 : (Fin.ofNat 512 (256 * (f.val / 256) + (Fin.ofNat 256 f.val).val)).val = f.val := by
      show (256 * (f.val / 256) + f.val % 256) % 512 = f.val
      omega
    rw [e1, e2]

/-- The seven others and the device itself are all eight devices. -/
theorem sum_devices (P : Dev nD → EReal) :
    ∑ g, P g = P c + P (nbr c 7) + P (nbr c 6) + P (nbr c 5) + P (nbr c 4) + P (nbr c 3) + P (nbr c 2) + P (nbr c 1) := by
  have hb : ∀ c : Dev nD, Function.Bijective fun d : Fin 8 => nbr c (8 - d.val) := by decide +kernel
  rw [← (hb c).sum_comp P, Fin.sum_univ_eight]
  exact congrArg₂ (· + ·) (congrArg₂ (· + ·) (congrArg₂ (· + ·) (congrArg₂ (· + ·) (congrArg₂ (· + ·) (congrArg₂ (· + ·)
    (congrArg₂ (· + ·) (congrArg P (nbr_eight c)) rfl) rfl) rfl) rfl) rfl) rfl) rfl

/-- A finished sum: the shared product and every device's partial sum of the row. -/
theorem accF_at (h : ℕ) (hh : h < 2) (r : Fin 64) (q : Fin 256) : (accF m c h (ix2 r q) : EReal) =
    ∑ k : Fin 256, xS m c (ix2 (Fin.ofNat 512 (64 * c.val + r.val)) k) * swS m c (ix2 k (Fin.ofNat 512 (256 * h + q.val))) +
      ∑ g, (pbF m g (ix2 (Fin.ofNat 512 (64 * c.val + r.val)) (Fin.ofNat 512 (256 * h + q.val))) : EReal) := by
  rw [sum_devices c]
  have hq := q.isLt
  have e0 : (⟨q.val, by omega⟩ : Fin 512) = Fin.ofNat 512 q.val := Fin.ext (by show q.val = q.val % 512; omega)
  have e1 : (⟨256 + q.val, by omega⟩ : Fin 512) = Fin.ofNat 512 (256 + q.val) :=
    Fin.ext (by show 256 + q.val = (256 + q.val) % 512; omega)
  rcases (by omega : h = 0 ∨ h = 1) with rfl | rfl
  · pointwise [accF, acc4, acc2, base0, k0_pay10, k0_pay9, k0_pay8, k0_pay7, k0_pay6, slF, xRow, pRow, stgF]
    rw [e0]
    simp only [add_assoc]
    rfl
  · pointwise [accF, bcc4, bcc2, base, k0_pay15, k0_pay14, k0_pay13, k0_pay6, slF, xRow, pRow, stgF]
    rw [e1]
    simp only [add_assoc]
    rfl

/-- The result at an index, where every device holds the same tokens and the same shared weights. -/
theorem outF_sum (x : S512x256.Idx → EReal) (sw : S256x512.Idx → EReal) (hx : ∀ g, xS m g = x) (hs : ∀ g, swS m g = sw)
    (t f : Fin 512) : (outF m c (ix2 t f) : EReal) =
      ∑ k : Fin 256, x (ix2 t k) * sw (ix2 k f) + ∑ g, (pbF m g (ix2 t f) : EReal) := by
  have ht := t.isLt
  have hf := f.isLt
  have e1 : Fin.ofNat 512 (64 * (owner t).val + (Fin.ofNat 64 t.val).val) = t := Fin.ext (by
    show (64 * (t.val / 64) + t.val % 64) % 512 = t.val; omega)
  have e2 : Fin.ofNat 512 (256 * (f.val / 256) + (Fin.ofNat 256 f.val).val) = f := Fin.ext (by
    show (256 * (f.val / 256) + f.val % 256) % 512 = f.val; omega)
  rw [outF_at, accF_at _ _ _ (by omega), e1, e2, hx, hs]

/-! ## A device's partial sum -/

theorem select_word (a b : BitVec 32) (x y : EReal) : Scalar.select (IntOp.cmpi .eq a b) x y = if a = b then x else y := by
  unfold Scalar.select IntOp.cmpi
  by_cases h : a = b
  · simp [h]
  · rw [if_neg h, beq_eq_false_iff_ne.2 h]; rfl

variable (x : S512x256.Idx → EReal) (rw : S256x16.Idx → EReal) (ids : IVec S512x1 32) (ew : S2x256x512.Idx → EReal)

/-- The gate of token `t`: the probability of the expert its word names. -/
theorem gate_at (t : Fin 512) : (k0_pay3 (F := Ideal) x rw ids (ix2 t 0) : EReal) =
    ∑ j : Fin 16, if ids (ix2 t 0) = BitVec.ofNat 32 j.val then prob (score x rw t) j else 0 := by
  pointwise [k0_pay3, k0_pay2, k0_pay1]
  refine Finset.sum_congr rfl fun j _ => ?_
  rw [select_word]
  simp only [eq_comm (a := BitVec.ofNat 32 j.val)]
  rfl

/-- The word of a device's expert, as the kernel computes it. -/
theorem word_expert (g : Fin 8) :
    Scalar.addi (Scalar.muli (BitVec.ofNat 32 g.val) 2#32) 0#32 = BitVec.ofNat 32 (2 * g.val) ∧
      Scalar.addi (Scalar.muli (BitVec.ofNat 32 g.val) 2#32) 1#32 = BitVec.ofNat 32 (2 * g.val + 1) := by
  fin_cases g <;> exact ⟨rfl, rfl⟩

theorem devW_eq (g : Dev nD) : devW g = BitVec.ofNat 32 g.val := by
  revert g
  decide +kernel

/-- What expert `e` adds to token `t`, if the token's word names it. -/
def adds (w : S256x512.Idx → EReal) (t f : Fin 512) (e : Fin 16) : EReal :=
  if ids (ix2 t 0) = BitVec.ofNat 32 e.val then
    prob (score x rw t) e * ∑ k : Fin 256, x (ix2 t k) * w (ix2 k f) else 0

/-- The gated token times an expert's weights is what the expert adds, when scores are finite. -/
theorem gated (hx : ∀ i, IsReal (x i)) (hr : ∀ i, IsReal (rw i)) (w : S256x512.Idx → EReal) (t f : Fin 512) (e : Fin 16) :
    (∑ k : Fin 256, (if ids (ix2 t 0) = BitVec.ofNat 32 e.val then
        (k0_pay3 (F := Ideal) x rw ids (ix2 t 0) * x (ix2 t k) * w (ix2 k f) : EReal) else 0)) = adds x rw ids w t f e := by
  unfold adds
  split
  · next h =>
    obtain ⟨h0, h1⟩ := prob_fin (score x rw t) (fun j => IsReal.sum _ _ fun k => (hx _).mul (hr _)) e
    rw [gate_at, sum_named _ e h, mul_sum_fin _ _ h0 h1]
    exact Finset.sum_congr rfl fun k _ => mul_assoc _ _ _
  · exact Finset.sum_const_zero

/-- The partial sum of device `g`: what its two experts add. -/
theorem partial_at (hx : ∀ i, IsReal (x i)) (hr : ∀ i, IsReal (rw i)) (g : Fin 8) (t f : Fin 512) :
    (k0_pay5 (F := Ideal) (BitVec.ofNat 32 g.val) (k0_pay1 x) (k0_pay2 (F := Ideal) ids) (k0_pay3 x rw ids)
        (k0_pay4 (BitVec.ofNat 32 g.val) x rw ids) ew (ix2 t f) : EReal) =
      ∑ j : Fin 2, adds x rw ids (fun i => ew (ix3 j (i 0) (i 1))) t f ⟨2 * g.val + j.val, by omega⟩ := by
  obtain ⟨w0, w1⟩ := word_expert g
  rw [Fin.sum_univ_two, ← gated x rw ids hx hr, ← gated x rw ids hx hr]
  pointwise [k0_pay5, k0_pay1, k0_pay2, k0_pay4]
  simp only [w0, w1, select_word]
  have e0 : ∀ (k : Fin 256) h h', (ix3 ⟨k.val / 256, h⟩ ⟨k.val % 256, h'⟩ f : S2x256x512.Idx) = ix3 0 k f := fun k h h' =>
    congrArg₂ (fun a b => (ix3 a b f : S2x256x512.Idx)) (Fin.ext (Nat.div_eq_of_lt k.isLt)) (Fin.ext (Nat.mod_eq_of_lt k.isLt))
  have e1 : ∀ (k : Fin 256) h h', (ix3 ⟨(256 + k.val) / 256, h⟩ ⟨(256 + k.val) % 256, h'⟩ f : S2x256x512.Idx) = ix3 1 k f :=
    fun k h h' => congrArg₂ (fun a b => (ix3 a b f : S2x256x512.Idx))
      (Fin.ext (by have := k.isLt; show (256 + k.val) / 256 = 1; omega))
      (Fin.ext (by have := k.isLt; show (256 + k.val) % 256 = k.val; omega))
  simp only [e0, e1]

end Cert.KernelIdeal.Proto

end
-- ==== Proof.Algebraic.lean ====
/-
The kernel and the reference leave the same array over the extended reals, for finite tokens and router weights.
-/
module

public import proofs.«01_k».proof.Defs
public import proofs.«01_k».proof.Proof.Frames
public import proofs.«01_k».proof.Proof.Reference
public import proofs.«01_k».proof.Proof.Value

@[expose] public section

set_option maxRecDepth 16384

noncomputable section

namespace Cert.Proof

open Idealize.ShloMosaic Idealize.ShloMosaic.TcCoe Idealize.SL.Sem
open Cert.KernelIdeal (S512x256 S256x16 S512x1 S256x512 nD τ sig main_arg0 main_arg1 main_arg2 main_arg3 main_arg4 main_v1)
open Cert.KernelIdeal.Proto (run_main QC finalA finalA_in finalA_out outF outF_sum pbF partial_at adds devW_eq xS xS_eq rwS_eq idS_eq ewS_eq swS_eq)

/-- The precondition says of each entry of the tokens and the router's weights that it is finite. -/
theorem finite_entry {s : Shape} (a : FVec Ideal s .f32) (b : FVec Ideal s .f32) (hb : ∀ i, b i = Ideal.ofBits .f32 0x7F800000#32)
    (h : cmpf .olt (Host.absf a) b = fun _ => 1#1) (i : s.Idx) : IsReal (a i) := by
  have hi := congrFun h i
  have ht : Ideal.ofBits .f32 0x7F800000#32 = ⊤ := by simp [Ideal.ofBits, Ideal.ieee]
  change BitVec.ofBool (decide (max (a i : EReal) (-(a i : EReal)) < b i)) = 1#1 at hi
  rw [hb, ht] at hi
  refine fin_of_abs ?_
  by_contra hn
  rw [decide_eq_false hn] at hi
  exact absurd hi (by decide)

variable (m : (ℓ : Loc nD τ sig) → Buf (Elt Ideal) ℓ)

theorem finite_operands (h : Pre_KernelIdeal_finite_KernelIdeal m) (c : Dev nD) :
    (∀ i, IsReal (m ((c.tc : Thread nD τ).loc main_arg0) i)) ∧ ∀ i, IsReal (m ((c.tc : Thread nD τ).loc main_arg1) i) :=
  ⟨finite_entry _ _ (fun _ => rfl) (h c).1, finite_entry _ _ (fun _ => rfl) (h c).2⟩

/-- The place of a device's expert in the whole array of experts. -/
theorem expert_place (w : (⟨3, ![16, 256, 512]⟩ : Shape).Idx → EReal) (g : Fin 8) (j : Fin 2) (k : Fin 256) (f : Fin 512) :
    (Layout.block ⟨3, ![2, 256, 512]⟩ ⟨3, ![16, 256, 512]⟩ 0 8 g w) (ix3 j k f) = w (ix3 (finProdFinEquiv (g, j)) k f) := by
  refine congrArg w (funext fun a => Fin.ext ?_)
  match a with
  | ⟨0, _⟩ =>
    show g.val * 2 + j.val = j.val + 2 * g.val
    omega
  | ⟨1, _⟩ => rfl
  | ⟨2, _⟩ => rfl

/-- The result of every device, where the devices hold the same operands and their parts of the experts' weights. -/
theorem outF_wanted (x : S512x256.Idx → EReal) (rw : S256x16.Idx → EReal) (ids : IVec S512x1 32)
    (w : (⟨3, ![16, 256, 512]⟩ : Shape).Idx → EReal) (sw : S256x512.Idx → EReal)
    (h : ∀ c : Dev nD, m ((c.tc : Thread nD τ).loc main_arg0) = x ∧ m ((c.tc : Thread nD τ).loc main_arg1) = rw ∧
      m ((c.tc : Thread nD τ).loc main_arg2) = ids ∧
      m ((c.tc : Thread nD τ).loc main_arg3) = Layout.block ⟨3, ![2, 256, 512]⟩ ⟨3, ![16, 256, 512]⟩ 0 8 c w ∧
      m ((c.tc : Thread nD τ).loc main_arg4) = sw)
    (hx : ∀ i, IsReal (x i)) (hr : ∀ i, IsReal (rw i)) (c : Dev nD) (t f : Fin 512) :
    (outF m c (ix2 t f) : EReal) = wanted x rw ids w sw t f := by
  rw [outF_sum m c x sw (fun g => (xS_eq m g).trans (h g).1) (fun g => (swS_eq m g).trans (h g).2.2.2.2)]
  unfold wanted
  refine congrArg₂ (· + ·) rfl ?_
  refine Eq.trans ?_ (Equiv.sum_comp (finProdFinEquiv : Fin 8 × Fin 2 ≃ Fin (8 * 2)) _)
  rw [Fintype.sum_prod_type]
  refine Finset.sum_congr rfl fun g _ => ?_
  obtain ⟨h0, h1, h2, h3, h4⟩ := h g
  unfold pbF
  rw [devW_eq, xS_eq, rwS_eq, idS_eq, ewS_eq, h0, h1, h2, h3]
  refine (partial_at x rw ids _ hx hr g t f).trans (Finset.sum_congr rfl fun j _ => ?_)
  have e : (⟨2 * g.val + j.val, by have := Cert.KernelIdeal.Proto.dev_lt g; omega⟩ : Fin 16) = finProdFinEquiv (g, j) := Fin.ext (by
    show 2 * g.val + j.val = j.val + 2 * g.val; omega)
  unfold adds
  rw [e]
  refine if_congr Iff.rfl (congrArg _ (Finset.sum_congr rfl fun k _ => congrArg _ ?_)) rfl
  exact expert_place w g j k f

theorem algebraic : algebraic_KernelIdeal_ReferenceIdeal_pre_finite_KernelIdeal := by
  intro m g m' g' hp h
  have hf := finite_operands m hp 0
  rw [(h 0).1, (h 0).2.1] at hf
  refine ⟨fun i => wanted (m' ((0 : Dev _).tc.loc Cert.ReferenceIdeal.main_arg0)) (m' ((0 : Dev _).tc.loc Cert.ReferenceIdeal.main_arg1))
    (m' ((0 : Dev _).tc.loc Cert.ReferenceIdeal.main_arg2)) (m' ((0 : Dev _).tc.loc Cert.ReferenceIdeal.main_arg3))
    (m' ((0 : Dev _).tc.loc Cert.ReferenceIdeal.main_arg4)) (i 0) (i 1), ?_, ?_⟩
  · refine (θ_run _ _ _).mono (fun r hr c => ⟨?_, args_kept hr.1 c⟩) (run_main m g)
    refine (hr.1 c 5).trans ((finalA_out m c g).trans (funext fun i => ?_))
    idx_vars i
    exact outF_wanted m _ _ _ _ _ h hf.1 hf.2 c _ _
  · refine (θ_run _ _ _).mono (fun r hr => ⟨funext fun i => ?_, (hr 0).2⟩) (Cert.ReferenceIdeal.Value.run_wanted m' g')
    idx_vars i
    exact (hr 0).1 _ _

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_kernel, frame_ideal, frame_ideal_finite, frame_reference,
    frame_reference_finite, trivial, algebraic⟩

end Cert.Proof

end
